-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S24x1x4096 : Shape := ⟨3, ![24, 1, 4096]⟩
abbrev S4096x13696 : Shape := ⟨2, ![4096, 13696]⟩
abbrev S13696 : Shape := ⟨1, ![13696]⟩
abbrev S24x4096 : Shape := ⟨2, ![24, 4096]⟩
abbrev S1x13696 : Shape := ⟨2, ![1, 13696]⟩
abbrev S24x1 : Shape := ⟨2, ![24, 1]⟩
abbrev S24x6848 : Shape := ⟨2, ![24, 6848]⟩
abbrev S256x13696 : Shape := ⟨2, ![256, 13696]⟩
abbrev S32x4096 : Shape := ⟨2, ![32, 4096]⟩
abbrev S32x13696 : Shape := ⟨2, ![32, 13696]⟩
abbrev S24 : Shape := ⟨1, ![24]⟩
abbrev S24x252 : Shape := ⟨2, ![24, 252]⟩
abbrev S32x256 : Shape := ⟨2, ![32, 256]⟩
abbrev S24x13696 : Shape := ⟨2, ![24, 13696]⟩

abbrev nBuf : Space → Nat
  | .hbm => 9
  | .vmem => 10
  | .smem => 0
  | _ => 0

abbrev bufTy : (tb : Table) → Fin (tcTables nBuf tb) → BufTy
  | .hbm, ⟨0, _⟩ => ⟨S24x1x4096, .bf16⟩
  | .hbm, ⟨1, _⟩ => ⟨S4096x13696, .fp8e4m3⟩
  | .hbm, ⟨2, _⟩ => ⟨S13696, .f32⟩
  | .hbm, ⟨3, _⟩ => ⟨S24x4096, .bf16⟩
  | .hbm, ⟨4, _⟩ => ⟨S1x13696, .f32⟩
  | .hbm, ⟨5, _⟩ => ⟨S24x1, .f32⟩
  | .hbm, ⟨6, _⟩ => ⟨S24x6848, .fp8e4m3⟩
  | .hbm, ⟨7, _⟩ => ⟨S24x4096, .fp8e4m3⟩
  | .hbm, ⟨8, _⟩ => ⟨S24x1, .f32⟩
  | .local _ .vmem, ⟨0, _⟩ => ⟨S24x4096, .bf16⟩
  | .local _ .vmem, ⟨1, _⟩ => ⟨S256x13696, .fp8e4m3⟩
  | .local _ .vmem, ⟨2, _⟩ => ⟨S256x13696, .fp8e4m3⟩
  | .local _ .vmem, ⟨3, _⟩ => ⟨S1x13696, .f32⟩
  | .local _ .vmem, ⟨4, _⟩ => ⟨S24x1, .f32⟩
  | .local _ .vmem, ⟨5, _⟩ => ⟨S24x6848, .fp8e4m3⟩
  | .local _ .vmem, ⟨6, _⟩ => ⟨S24x4096, .fp8e4m3⟩
  | .local _ .vmem, ⟨7, _⟩ => ⟨S24x1, .f32⟩
  | .local _ .vmem, ⟨8, _⟩ => ⟨S32x4096, .fp8e4m3⟩
  | .local _ .vmem, ⟨9, _⟩ => ⟨S32x13696, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  ![0, v5.toNat]
def k0_cond2 (i : grid0.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_7 : BitVec 32 := 0#32
  let v16 : BitVec 1 := Scalar.cmpi .ne v15 c0_i32_7
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x13696 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x13696 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x6848 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
variable {F : FTy → Type} [FloatOps F] [Named F]
def κ : String → Option EReal := fun
  | "ln2" => some ((Real.log 2 : ℝ) : EReal)
  | _ => none
-- ==== Reference.lean ====
abbrev S24x1x4096 : Shape := ⟨3, ![24, 1, 4096]⟩
abbrev S4096x13696 : Shape := ⟨2, ![4096, 13696]⟩
abbrev S13696 : Shape := ⟨1, ![13696]⟩
abbrev S24x4096 : Shape := ⟨2, ![24, 4096]⟩
abbrev S1x13696 : Shape := ⟨2, ![1, 13696]⟩
abbrev S24x1 : Shape := ⟨2, ![24, 1]⟩
abbrev S24x6848 : Shape := ⟨2, ![24, 6848]⟩
abbrev S24 : Shape := ⟨1, ![24]⟩
abbrev S24x13696 : Shape := ⟨2, ![24, 13696]⟩

abbrev nBuf : Space → Nat
  | .hbm => 9
  | .vmem => 7
  | .smem => 0
  | _ => 0

abbrev bufTy : (tb : Table) → Fin (tcTables nBuf tb) → BufTy
  | .hbm, ⟨0, _⟩ => ⟨S24x1x4096, .bf16⟩
  | .hbm, ⟨1, _⟩ => ⟨S4096x13696, .fp8e4m3⟩
  | .hbm, ⟨2, _⟩ => ⟨S13696, .f32⟩
  | .hbm, ⟨3, _⟩ => ⟨S24x4096, .bf16⟩
  | .hbm, ⟨4, _⟩ => ⟨S1x13696, .f32⟩
  | .hbm, ⟨5, _⟩ => ⟨S24x1, .f32⟩
  | .hbm, ⟨6, _⟩ => ⟨S24x6848, .fp8e4m3⟩
  | .hbm, ⟨7, _⟩ => ⟨S24x4096, .fp8e4m3⟩
  | .hbm, ⟨8, _⟩ => ⟨S24x1, .f32⟩
  | .local _ .vmem, ⟨0, _⟩ => ⟨S24x4096, .bf16⟩
  | .local _ .vmem, ⟨1, _⟩ => ⟨S4096x13696, .fp8e4m3⟩
  | .local _ .vmem, ⟨2, _⟩ => ⟨S1x13696, .f32⟩
  | .local _ .vmem, ⟨3, _⟩ => ⟨S24x1, .f32⟩
  | .local _ .vmem, ⟨4, _⟩ => ⟨S24x6848, .fp8e4m3⟩
  | .local _ .vmem, ⟨5, _⟩ => ⟨S24x4096, .fp8e4m3⟩
  | .local _ .vmem, ⟨6, _⟩ => ⟨S24x1, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x13696 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13696 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x6848 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Swiglu.Point.lean ====
/-
  ONE POINT OF THE IDEALIZED KERNEL'S GRID.

  The kernel walks 16 blocks of the contracted axis. At the first point it quantises the activations and zeroes the
  accumulator; at every point it adds one block's partial product to the accumulator; at the last point it applies the
  scales, the gated activation, and quantises the outcome. This module names what a point leaves in each buffer, as a
  function of what it reads, and proves the three triples (first point, inner point, last point) of the body.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The zero offsets of a two-axis access. -/
theorem hz : (![0, 0] : Fin 2 → Nat) = fun _ => 0 := funext fun a => by fin_cases a <;> rfl

/-- The codes of the activations `x`, as stored in the third result. -/
def xcOf (x : Vec F S24x4096 .bf16) : Vec F S24x4096 .fp8e4m3 := k0_pay1 (k0_pay8 x) (k0_pay11 x)

/-- The per-row scales of the activations `x`, as stored in the fourth result. -/
def xsOf (x : Vec F S24x4096 .bf16) : Vec F S24x1 .f32 := k0_pay10 x

/-- The padded codes the first point leaves in the scratch: the 24 rows of codes written over 32 rows of zeros. -/
def xqOf (x : Vec F S24x4096 .bf16) : Vec F S32x4096 .fp8e4m3 :=
  View.canon [⟨Rect.unit (s := S32x4096) ![0, 0] S24x4096.size inb_S32x4096_S24x4096_0_0, k0_pay3 (k0_pay8 x) (k0_pay11 x)⟩,
    ⟨Rect.unit (s := S32x4096) ![0, 0] S32x4096.size inb_S32x4096_S32x4096_0_0, k0_pay2 (F := F)⟩]

/-- One step of the accumulation at point `i`: the accumulator plus the product of the 256 columns of padded codes at `i`
    and the block `w` of weights. -/
def accStep (i : grid0.Coords) (xq : Vec F S32x4096 .fp8e4m3) (w : Vec F S256x13696 .fp8e4m3) (acc : Vec F S32x13696 .f32) :
    Vec F S32x13696 .f32 :=
  k0_pay5 (View.ld xq (Rect.unit (s := S32x4096) (k0_off1 i) S32x256.size (k0_off1_inb i))) acc w

/-- The first 24 rows of the accumulator. -/
def rows24 (acc : Vec F S32x13696 .f32) : Vec F S24x13696 .f32 :=
  View.ld acc (Rect.unit (s := S32x13696) ![0, 0] S24x13696.size inb_S32x13696_S24x13696_0_0)

/-- The scales of the gated activation, as stored in the first result. -/
def hsOf (acc : Vec F S32x13696 .f32) (xs : Vec F S24x1 .f32) (ws : Vec F S1x13696 .f32) : Vec F S24x1 .f32 :=
  k0_pay6 (k0_pay14 (rows24 acc) xs ws)

/-- The codes of the gated activation, as stored in the second result. -/
def hcOf (acc : Vec F S32x13696 .f32) (xs : Vec F S24x1 .f32) (ws : Vec F S1x13696 .f32) : Vec F S24x6848 .fp8e4m3 :=
  k0_pay7 (k0_pay12 (rows24 acc) xs ws) (k0_pay13 (rows24 acc) xs ws)

/-- Writes one of which covers every index cover every index: a later write in front of a covering list changes nothing. -/
theorem cover_cons {S : Shape} {e : EltTy} (p : View.Piece (Elt F) S e) {L : List (View.Piece (Elt F) S e)}
    (h : ∀ y : S.Idx, ∃ q ∈ L, y ∈ q.1.set) : ∀ y : S.Idx, ∃ q ∈ p :: L, y ∈ q.1.set := fun y =>
  let ⟨q, hq, hy⟩ := h y
  ⟨q, List.mem_cons_of_mem _ hq, hy⟩
/-- Writes whose head covers every index cover every index. -/
theorem cover_head {S : Shape} {e : EltTy} (p : View.Piece (Elt F) S e) (L : List (View.Piece (Elt F) S e))
    (h : ∀ y : S.Idx, ∃ q ∈ [p], y ∈ q.1.set) : ∀ y : S.Idx, ∃ q ∈ p :: L, y ∈ q.1.set := fun y =>
  let ⟨q, hq, hy⟩ := h y
  ⟨q, List.mem_cons.mpr (Or.inl (List.mem_singleton.mp hq)), hy⟩

/-! ## Loads of whole buffers -/

/-- A load of the whole of a 24×4096 buffer reads its contents. -/
theorem ld_x (x : Vec F S24x4096 .bf16) (inb) : View.ld x (Rect.unit (s := S24x4096) ![0, 0] ![24, 4096] inb) = x :=
  View.ld_unit_zero hz inb x
/-- A load of the whole of a 256×13696 buffer reads its contents. -/
theorem ld_w (x : Vec F S256x13696 .fp8e4m3) (inb) : View.ld x (Rect.unit (s := S256x13696) ![0, 0] ![256, 13696] inb) = x :=
  View.ld_unit_zero hz inb x
/-- A load of the whole of a 1×13696 buffer reads its contents. -/
theorem ld_ws (x : Vec F S1x13696 .f32) (inb) : View.ld x (Rect.unit (s := S1x13696) ![0, 0] ![1, 13696] inb) = x :=
  View.ld_unit_zero hz inb x
/-- A load of the whole of a 24×1 buffer reads its contents. -/
theorem ld_xs (x : Vec F S24x1 .f32) (inb) : View.ld x (Rect.unit (s := S24x1) ![0, 0] ![24, 1] inb) = x :=
  View.ld_unit_zero hz inb x
/-- A load of the whole of a 32×13696 buffer reads its contents. -/
theorem ld_acc (x : Vec F S32x13696 .f32) (inb) : View.ld x (Rect.unit (s := S32x13696) ![0, 0] ![32, 13696] inb) = x :=
  View.ld_unit_zero hz inb x
/-- A load of a part of the accumulator after one store of the whole of it reads that part of what was stored. -/
theorem readCov_rows (v : View sig .tc .vmem S32x13696 .f32) (inb) (r : Rect S32x13696) (a : Vec F S32x13696 .f32) :
    v.readCov (Val := Elt F) [⟨Rect.unit (s := S32x13696) ![0, 0] ![32, 13696] inb, a⟩] r.toLoadRect = View.ld a r := by
  rw [View.readCov_eq_canon']
  exact congrArg (fun z : Vec F S32x13696 .f32 => View.ld z r) (View.canon_unit_zero hz inb a)
/-- A load of the whole accumulator after one store of the whole of it reads what was stored. -/
theorem readCov_acc (v : View sig .tc .vmem S32x13696 .f32) (inb) (a : Vec F S32x13696 .f32) :
    v.readCov (Val := Elt F) [⟨Rect.unit (s := S32x13696) ![0, 0] ![32, 13696] inb, a⟩]
      (Rect.unit (s := S32x13696) ![0, 0] ![32, 13696] inb).toLoadRect = a :=
  View.readCov_unit_zero v hz inb a

/-! ## The body's conditions -/

/-- The first conditional's test. -/
abbrev cond0_0 (i : grid0.Coords) : Prop := k0_cond1 i = 1#1
/-- The second conditional's test. -/
abbrev cond0_1 (i : grid0.Coords) : Prop := k0_cond2 i = 1#1
/-- The first conditional is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)
/-- The second conditional is taken at the last point only. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## The three triples -/

set_option maxHeartbeats 1000000 in
/-- THE FIRST POINT: from the inputs at their blocks and the rest at anything (the first two results' buffers are handed back as found), the
    body leaves the codes and scales of the activations, the padded codes, and the first partial product added to zero. -/
theorem run_first (c : Dev nD) (i : grid0.Coords) (arg1 : Memref sig .tc .vmem S24x4096 .bf16) (harg1 : arg1.IsWhole) (arg2 : Memref sig .tc .vmem S256x13696 .fp8e4m3) (harg2 : arg2.IsWhole) (arg3 : Memref sig .tc .vmem S1x13696 .f32) (harg3 : arg3.IsWhole) (arg4 : Memref sig .tc .vmem S24x1 .f32) (harg4 : arg4.IsWhole) (arg5 : Memref sig .tc .vmem S24x6848 .fp8e4m3) (harg5 : arg5.IsWhole) (arg6 : Memref sig .tc .vmem S24x4096 .fp8e4m3) (harg6 : arg6.IsWhole) (arg7 : Memref sig .tc .vmem S24x1 .f32) (harg7 : arg7.IsWhole) (arg8 : Memref sig .tc .vmem S32x4096 .fp8e4m3) (harg8 : arg8.IsWhole) (arg9 : Memref sig .tc .vmem S32x13696 .f32) (harg9 : arg9.IsWhole) (hc0 : cond0_0 i) (hc1 : ¬cond0_1 i)
    (x0 : Vec F S24x4096 .bf16) (x1 : Vec F S256x13696 .fp8e4m3) (x2 : Vec F S1x13696 .f32) (xi3 : Vec F S24x1 .f32) (xi4 : Vec F S24x6848 .fp8e4m3)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare (xcOf x0) ∗ owns (c : Thread nD τ) arg7 fullShare (xsOf x0) ∗ owns (c : Thread nD τ) arg8 fullShare (xqOf x0) ∗ owns (c : Thread nD τ) arg9 fullShare (accStep i (xqOf x0) x1 (k0_pay4 (F := F)))) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9) K := by
  simp only [cc0_swiglu_gate_up_fp8_eq_skeleton]; unfold cc0_swiglu_gate_up_fp8_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (View.cover_of_tiled _ S24x4096.size (by rfl)), View.canon_unit_zero hz]
    simp only [View.readAt_eq_ld, harg1.read_unread, harg2.read_unread, harg3.read_unread, harg7.read_unread, harg8.read_unread, harg9.read_unread, ld_x, ld_w, ld_ws, ld_xs, ld_acc, readCov_acc, readCov_rows]
    rfl
  isplitl [H6]
  · iexists _; isplitr
    swap; · iexact H6
    ipureintro
    sl_unfold_words
    rw [View.read_writes_eq_canon _ _ _ (View.cover_of_tiled _ S24x1.size (by rfl)), View.canon_unit_zero hz]
    simp only [View.readAt_eq_ld, harg1.read_unread, harg2.read_unread, harg3.read_unread, harg7.read_unread, harg8.read_unread, harg9.read_unread, ld_x, ld_w, ld_ws, ld_xs, ld_acc, readCov_acc, readCov_rows]
    rfl
  isplitl [HS0]
  · iexists _; isplitr
    swap; · iexact HS0
    ipureintro
    sl_unfold_words
    rw [View.read_writes_eq_canon _ _ _ (cover_cons _ (View.cover_of_tiled _ S32x4096.size (by rfl)))]
    simp only [View.readAt_eq_ld, harg1.read_unread, harg2.read_unread, harg3.read_unread, harg7.read_unread, harg8.read_unread, harg9.read_unread, ld_x, ld_w, ld_ws, ld_xs, ld_acc, readCov_acc, readCov_rows]
    rfl
  iexists _; isplitr
  swap; · iexact HS1
  ipureintro
  sl_unfold_words
  rw [View.read_writes_eq_canon _ _ _ (cover_head _ _ (View.cover_of_tiled _ S32x13696.size (by rfl))), View.canon_cons_unit_zero hz]
  rw [View.readAt_writes_junk_eq_canon]
  simp only [View.readAt_eq_ld, harg1.read_unread, harg2.read_unread, harg3.read_unread, harg7.read_unread, harg8.read_unread, harg9.read_unread, ld_x, ld_w, ld_ws, ld_xs, ld_acc, readCov_acc, readCov_rows]
  rfl

set_option maxHeartbeats 1000000 in
/-- AN INNER POINT: the accumulator takes one step; every other buffer is handed back as found. -/
theorem run_inner (c : Dev nD) (i : grid0.Coords) (arg1 : Memref sig .tc .vmem S24x4096 .bf16) (harg1 : arg1.IsWhole) (arg2 : Memref sig .tc .vmem S256x13696 .fp8e4m3) (harg2 : arg2.IsWhole) (arg3 : Memref sig .tc .vmem S1x13696 .f32) (harg3 : arg3.IsWhole) (arg4 : Memref sig .tc .vmem S24x1 .f32) (harg4 : arg4.IsWhole) (arg5 : Memref sig .tc .vmem S24x6848 .fp8e4m3) (harg5 : arg5.IsWhole) (arg6 : Memref sig .tc .vmem S24x4096 .fp8e4m3) (harg6 : arg6.IsWhole) (arg7 : Memref sig .tc .vmem S24x1 .f32) (harg7 : arg7.IsWhole) (arg8 : Memref sig .tc .vmem S32x4096 .fp8e4m3) (harg8 : arg8.IsWhole) (arg9 : Memref sig .tc .vmem S32x13696 .f32) (harg9 : arg9.IsWhole) (hc0 : ¬cond0_0 i) (hc1 : ¬cond0_1 i)
    (x0 : Vec F S24x4096 .bf16) (x1 : Vec F S256x13696 .fp8e4m3) (x2 : Vec F S1x13696 .f32) (xi3 : Vec F S24x1 .f32) (xi4 : Vec F S24x6848 .fp8e4m3) (xi5 : Vec F S24x4096 .fp8e4m3) (xi6 : Vec F S24x1 .f32)
    (xq : Vec F S32x4096 .fp8e4m3) (acc : Vec F S32x13696 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xq ∗ owns (c : Thread nD τ) arg9 fullShare acc
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xi6 ∗ owns (c : Thread nD τ) arg8 fullShare xq ∗ owns (c : Thread nD τ) arg9 fullShare (accStep i xq x1 acc)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9) K := by
  simp only [cc0_swiglu_gate_up_fp8_eq_skeleton]; unfold cc0_swiglu_gate_up_fp8_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg8.read_unread _
    iexact HS0
  iexists _; isplitr
  swap; · iexact HS1
  ipureintro
  sl_unfold_words
  rw [View.read_writes_eq_canon _ _ _ (View.cover_of_tiled _ S32x13696.size (by rfl)), View.canon_unit_zero hz]
  simp only [View.readAt_eq_ld, harg1.read_unread, harg2.read_unread, harg3.read_unread, harg7.read_unread, harg8.read_unread, harg9.read_unread, ld_x, ld_w, ld_ws, ld_xs, ld_acc, readCov_acc, readCov_rows]
  rfl

set_option maxHeartbeats 1000000 in
/-- THE LAST POINT: the accumulator takes its last step, and from it, the stored scales `xs` and the weight scales the body leaves
    the scales and codes of the gated activation; the codes and scales of the activations are handed back as found. -/
theorem run_last (c : Dev nD) (i : grid0.Coords) (arg1 : Memref sig .tc .vmem S24x4096 .bf16) (harg1 : arg1.IsWhole) (arg2 : Memref sig .tc .vmem S256x13696 .fp8e4m3) (harg2 : arg2.IsWhole) (arg3 : Memref sig .tc .vmem S1x13696 .f32) (harg3 : arg3.IsWhole) (arg4 : Memref sig .tc .vmem S24x1 .f32) (harg4 : arg4.IsWhole) (arg5 : Memref sig .tc .vmem S24x6848 .fp8e4m3) (harg5 : arg5.IsWhole) (arg6 : Memref sig .tc .vmem S24x4096 .fp8e4m3) (harg6 : arg6.IsWhole) (arg7 : Memref sig .tc .vmem S24x1 .f32) (harg7 : arg7.IsWhole) (arg8 : Memref sig .tc .vmem S32x4096 .fp8e4m3) (harg8 : arg8.IsWhole) (arg9 : Memref sig .tc .vmem S32x13696 .f32) (harg9 : arg9.IsWhole) (hc0 : ¬cond0_0 i) (hc1 : cond0_1 i)
    (x0 : Vec F S24x4096 .bf16) (x1 : Vec F S256x13696 .fp8e4m3) (x2 : Vec F S1x13696 .f32) (xi5 : Vec F S24x4096 .fp8e4m3) (xs : Vec F S24x1 .f32)
    (xq : Vec F S32x4096 .fp8e4m3) (acc : Vec F S32x13696 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ owns (c : Thread nD τ) arg7 fullShare xs ∗ owns (c : Thread nD τ) arg8 fullShare xq ∗ owns (c : Thread nD τ) arg9 fullShare acc
        ∗ (iprop(owns (c : Thread nD τ) arg1 fullShare x0 ∗ owns (c : Thread nD τ) arg2 fullShare x1 ∗ owns (c : Thread nD τ) arg3 fullShare x2 ∗ owns (c : Thread nD τ) arg4 fullShare (hsOf (accStep i xq x1 acc) xs x2) ∗ owns (c : Thread nD τ) arg5 fullShare (hcOf (accStep i xq x1 acc) xs x2) ∗ owns (c : Thread nD τ) arg6 fullShare xi5 ∗ owns (c : Thread nD τ) arg7 fullShare xs ∗ owns (c : Thread nD τ) arg8 fullShare xq ∗ owns (c : Thread nD τ) arg9 fullShare (accStep i xq x1 acc)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9) K := by
  simp only [cc0_swiglu_gate_up_fp8_eq_skeleton]; unfold cc0_swiglu_gate_up_fp8_skel
  simp only [k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, HS0⟩, ⟨%f8, %hf8, HS1⟩, Hk⟩
  obtain rfl := harg1.eq_unread hf0; obtain rfl := harg2.eq_unread hf1; obtain rfl := harg3.eq_unread hf2; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (View.cover_of_tiled _ S24x1.size (by rfl)), View.canon_unit_zero hz]
    simp only [View.readAt_eq_ld, harg1.read_unread, harg2.read_unread, harg3.read_unread, harg7.read_unread, harg8.read_unread, harg9.read_unread, ld_x, ld_w, ld_ws, ld_xs, ld_acc, readCov_acc, readCov_rows]
    rfl
  isplitl [H4]
  · iexists _; isplitr
    swap; · iexact H4
    ipureintro
    sl_unfold_words
    rw [View.read_writes_eq_canon _ _ _ (View.cover_of_tiled _ S24x6848.size (by rfl)), View.canon_unit_zero hz]
    simp only [View.readAt_eq_ld, harg1.read_unread, harg2.read_unread, harg3.read_unread, harg7.read_unread, harg8.read_unread, harg9.read_unread, ld_x, ld_w, ld_ws, ld_xs, ld_acc, readCov_acc, readCov_rows]
    rfl
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg8.read_unread _
    iexact HS0
  iexists _; isplitr
  swap; · iexact HS1
  ipureintro
  sl_unfold_words
  rw [View.read_writes_eq_canon _ _ _ (View.cover_of_tiled _ S32x13696.size (by rfl)), View.canon_unit_zero hz]
  simp only [View.readAt_eq_ld, harg1.read_unread, harg2.read_unread, harg3.read_unread, harg7.read_unread, harg8.read_unread, harg9.read_unread, ld_x, ld_w, ld_ws, ld_xs, ld_acc, readCov_acc, readCov_rows]
  rfl

end Cert.KernelIdeal.Hand

end
-- ==== Proof.Swiglu.Run.lean ====
/-
  THE RUN OF THE IDEALIZED KERNEL.

  From the three triples of the body, the run of the whole pipeline over its 16 points, with what every buffer holds at
  every point named; the frame of the program; and the contents of the four result arrays at the end.
-/
module

public import proofs.«01_k».proof.Proof.Swiglu.Point
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle, and where they are written back -/

/-- Window 0, an input, is never idle. -/
theorem live0 : ∀ t : Fin cfg0.N, cfg0.idle 0 (grid0.coords t) = false := fun _ => rfl
/-- Window 1, an input, is never idle. -/
theorem live1 : ∀ t : Fin cfg0.N, cfg0.idle 1 (grid0.coords t) = false := fun _ => rfl
/-- Window 2, an input, is never idle. -/
theorem live2 : ∀ t : Fin cfg0.N, cfg0.idle 2 (grid0.coords t) = false := fun _ => rfl
/-- Window 3 is idle at the first point. -/
theorem idle3_first : ∀ t : Fin cfg0.N, cond0_0 (grid0.coords t) → ¬cond0_1 (grid0.coords t) → cfg0.idle 3 (grid0.coords t) = true := by decide +kernel
/-- Window 3 is not written back at the first point. -/
theorem noFlush3_first : ∀ t : Fin cfg0.N, cond0_0 (grid0.coords t) → ¬cond0_1 (grid0.coords t) → (cfg0.win 3).flush t = false := by decide +kernel
/-- Window 3 is idle at the inner points. -/
theorem idle3_inner : ∀ t : Fin cfg0.N, ¬cond0_0 (grid0.coords t) → ¬cond0_1 (grid0.coords t) → cfg0.idle 3 (grid0.coords t) = true := by decide +kernel
/-- Window 3 is not written back at the inner points. -/
theorem noFlush3_inner : ∀ t : Fin cfg0.N, ¬cond0_0 (grid0.coords t) → ¬cond0_1 (grid0.coords t) → (cfg0.win 3).flush t = false := by decide +kernel
/-- Window 3 is stored into at the last point. -/
theorem live3_last : ∀ t : Fin cfg0.N, ¬cond0_0 (grid0.coords t) → cond0_1 (grid0.coords t) → cfg0.idle 3 (grid0.coords t) = false := by decide +kernel
/-- Window 4 is idle at the first point. -/
theorem idle4_first : ∀ t : Fin cfg0.N, cond0_0 (grid0.coords t) → ¬cond0_1 (grid0.coords t) → cfg0.idle 4 (grid0.coords t) = true := by decide +kernel
/-- Window 4 is not written back at the first point. -/
theorem noFlush4_first : ∀ t : Fin cfg0.N, cond0_0 (grid0.coords t) → ¬cond0_1 (grid0.coords t) → (cfg0.win 4).flush t = false := by decide +kernel
/-- Window 4 is idle at the inner points. -/
theorem idle4_inner : ∀ t : Fin cfg0.N, ¬cond0_0 (grid0.coords t) → ¬cond0_1 (grid0.coords t) → cfg0.idle 4 (grid0.coords t) = true := by decide +kernel
/-- Window 4 is not written back at the inner points. -/
theorem noFlush4_inner : ∀ t : Fin cfg0.N, ¬cond0_0 (grid0.coords t) → ¬cond0_1 (grid0.coords t) → (cfg0.win 4).flush t = false := by decide +kernel
/-- Window 4 is stored into at the last point. -/
theorem live4_last : ∀ t : Fin cfg0.N, ¬cond0_0 (grid0.coords t) → cond0_1 (grid0.coords t) → cfg0.idle 4 (grid0.coords t) = false := by decide +kernel
/-- Window 5 is stored into at the first point. -/
theorem live5_first : ∀ t : Fin cfg0.N, cond0_0 (grid0.coords t) → ¬cond0_1 (grid0.coords t) → cfg0.idle 5 (grid0.coords t) = false := by decide +kernel
/-- Window 5 is idle at the inner points. -/
theorem idle5_inner : ∀ t : Fin cfg0.N, ¬cond0_0 (grid0.coords t) → ¬cond0_1 (grid0.coords t) → cfg0.idle 5 (grid0.coords t) = true := by decide +kernel
/-- Window 5 is not written back at the inner points. -/
theorem noFlush5_inner : ∀ t : Fin cfg0.N, ¬cond0_0 (grid0.coords t) → ¬cond0_1 (grid0.coords t) → (cfg0.win 5).flush t = false := by decide +kernel
/-- Window 5 is idle at the last point. -/
theorem idle5_last : ∀ t : Fin cfg0.N, ¬cond0_0 (grid0.coords t) → cond0_1 (grid0.coords t) → cfg0.idle 5 (grid0.coords t) = true := by decide +kernel
/-- Window 5 is written back at the last point. -/
theorem flush5_last : ∀ t : Fin cfg0.N, ¬cond0_0 (grid0.coords t) → cond0_1 (grid0.coords t) → (cfg0.win 5).flush t = true := by decide +kernel
/-- Whether window 5's buffer is still as the region found it, or as the last write-back left it, before each point: it is
    at the start, and after the last point. -/
def freshTab5 : ℕ → Bool
  | 0 => true
  | n + 1 => (0x8000 : ℕ).testBit n
/-- The table follows the rule point by point. -/
theorem freshTab5_step : ∀ t : Fin cfg0.N,
    freshTab5 (t.val + 1) = ((cfg0.win 5).flush t || (cfg0.idle 5 (cfg0.grid.coords t) && freshTab5 t.val)) := by decide +kernel
/-- The table is the library's notion. -/
theorem fresh5_eq (t : Fin cfg0.N) : cfg0.fresh 5 t.val = freshTab5 t.val :=
  Pipeline.Cfg.fresh_tab cfg0 5 freshTab5 rfl freshTab5_step t.val (Nat.le_of_lt t.isLt)
/-- Before the last point window 5's buffer holds something the body stored. -/
theorem notFresh5_last : ∀ t : Fin cfg0.N, ¬cond0_0 (grid0.coords t) → cond0_1 (grid0.coords t) → cfg0.fresh 5 t.val = false := by
  intro t; rw [fresh5_eq t]; revert t; decide +kernel
/-- Window 6 is stored into at the first point. -/
theorem live6_first : ∀ t : Fin cfg0.N, cond0_0 (grid0.coords t) → ¬cond0_1 (grid0.coords t) → cfg0.idle 6 (grid0.coords t) = false := by decide +kernel
/-- Window 6 is idle at the inner points. -/
theorem idle6_inner : ∀ t : Fin cfg0.N, ¬cond0_0 (grid0.coords t) → ¬cond0_1 (grid0.coords t) → cfg0.idle 6 (grid0.coords t) = true := by decide +kernel
/-- Window 6 is not written back at the inner points. -/
theorem noFlush6_inner : ∀ t : Fin cfg0.N, ¬cond0_0 (grid0.coords t) → ¬cond0_1 (grid0.coords t) → (cfg0.win 6).flush t = false := by decide +kernel
/-- Window 6 is idle at the last point. -/
theorem idle6_last : ∀ t : Fin cfg0.N, ¬cond0_0 (grid0.coords t) → cond0_1 (grid0.coords t) → cfg0.idle 6 (grid0.coords t) = true := by decide +kernel
/-- Window 6 is written back at the last point. -/
theorem flush6_last : ∀ t : Fin cfg0.N, ¬cond0_0 (grid0.coords t) → cond0_1 (grid0.coords t) → (cfg0.win 6).flush t = true := by decide +kernel
/-- Whether window 6's buffer is still as the region found it, or as the last write-back left it, before each point: it is
    at the start, and after the last point. -/
def freshTab6 : ℕ → Bool
  | 0 => true
  | n + 1 => (0x8000 : ℕ).testBit n
/-- The table follows the rule point by point. -/
theorem freshTab6_step : ∀ t : Fin cfg0.N,
    freshTab6 (t.val + 1) = ((cfg0.win 6).flush t || (cfg0.idle 6 (cfg0.grid.coords t) && freshTab6 t.val)) := by decide +kernel
/-- The table is the library's notion. -/
theorem fresh6_eq (t : Fin cfg0.N) : cfg0.fresh 6 t.val = freshTab6 t.val :=
  Pipeline.Cfg.fresh_tab cfg0 6 freshTab6 rfl freshTab6_step t.val (Nat.le_of_lt t.isLt)
/-- Before the last point window 6's buffer holds something the body stored. -/
theorem notFresh6_last : ∀ t : Fin cfg0.N, ¬cond0_0 (grid0.coords t) → cond0_1 (grid0.coords t) → cfg0.fresh 6 t.val = false := by
  intro t; rw [fresh6_eq t]; revert t; decide +kernel

/-! ## Staging buffers and scratch -/

/-- Window 0's staging buffer at point `t`, -/
abbrev ms0 (t : Fin cfg0.N) : Memref sig .tc .vmem S24x4096 .bf16 := win0_0.stage (cfg0.slots t 0)
/-- which is a whole buffer. -/
abbrev hs0 (t : Fin cfg0.N) : (ms0 t).IsWhole := hstage0_0 ((cfg0.slots t 0).cast nbuf0_0)
/-- Window 1's staging buffer at point `t`, -/
abbrev ms1 (t : Fin cfg0.N) : Memref sig .tc .vmem S256x13696 .fp8e4m3 := win0_1.stage (cfg0.slots t 1)
/-- which is a whole buffer. -/
abbrev hs1 (t : Fin cfg0.N) : (ms1 t).IsWhole := hstage0_1 ((cfg0.slots t 1).cast nbuf0_1)
/-- Window 2's staging buffer at point `t`, -/
abbrev ms2 (t : Fin cfg0.N) : Memref sig .tc .vmem S1x13696 .f32 := win0_2.stage (cfg0.slots t 2)
/-- which is a whole buffer. -/
abbrev hs2 (t : Fin cfg0.N) : (ms2 t).IsWhole := hstage0_2 ((cfg0.slots t 2).cast nbuf0_2)
/-- Window 3's staging buffer at point `t`, -/
abbrev ms3 (t : Fin cfg0.N) : Memref sig .tc .vmem S24x1 .f32 := win0_3.stage (cfg0.slots t 3)
/-- which is a whole buffer. -/
abbrev hs3 (t : Fin cfg0.N) : (ms3 t).IsWhole := hstage0_3 ((cfg0.slots t 3).cast nbuf0_3)
/-- Window 4's staging buffer at point `t`, -/
abbrev ms4 (t : Fin cfg0.N) : Memref sig .tc .vmem S24x6848 .fp8e4m3 := win0_4.stage (cfg0.slots t 4)
/-- which is a whole buffer. -/
abbrev hs4 (t : Fin cfg0.N) : (ms4 t).IsWhole := hstage0_4 ((cfg0.slots t 4).cast nbuf0_4)
/-- Window 5's staging buffer at point `t`, -/
abbrev ms5 (t : Fin cfg0.N) : Memref sig .tc .vmem S24x4096 .fp8e4m3 := win0_5.stage (cfg0.slots t 5)
/-- which is a whole buffer. -/
abbrev hs5 (t : Fin cfg0.N) : (ms5 t).IsWhole := hstage0_5 ((cfg0.slots t 5).cast nbuf0_5)
/-- Window 6's staging buffer at point `t`, -/
abbrev ms6 (t : Fin cfg0.N) : Memref sig .tc .vmem S24x1 .f32 := win0_6.stage (cfg0.slots t 6)
/-- which is a whole buffer. -/
abbrev hs6 (t : Fin cfg0.N) : (ms6 t).IsWhole := hstage0_6 ((cfg0.slots t 6).cast nbuf0_6)
/-- The scratch of padded codes. -/
abbrev scX : Memref sig .tc .vmem S32x4096 .fp8e4m3 := Memref.whole cc0_scratch0
/-- The scratch accumulator. -/
abbrev scA : Memref sig .tc .vmem S32x13696 .f32 := Memref.whole cc0_scratch1

/-- The region's entry invariant, with the scratch operands as buffers owned at some contents. -/
theorem PhiA_eq (c : Dev nD) :
    (Pipeline.ΦA spec0 c : sProp 𝕄)
      = iprop(iprop((∃ d, owns (c : Thread nD τ) scX fullShare d) ∗ (∃ d, owns (c : Thread nD τ) scA fullShare d)) ∗ (∃ r, prngReg c r)) := by
  unfold Pipeline.ΦA; rw [scopedRest0_eq]; simp only [scX, scA, owns_whole]; try rfl

variable (m : (ℓ : Loc nD τ sig) → Buf (Elt F) ℓ) (ρ : Dev nD → PrngReg)

/-! ## What the buffers hold at each point -/

/-- The activations on core `c`, as the kernel reads them at the first point. -/
def xIn (c : Dev nD) : Vec F S24x4096 .bf16 := iblk m c 0 t0_0
/-- The block of weights the kernel reads at point `t`. -/
def wIn (c : Dev nD) (t : Fin cfg0.N) : Vec F S256x13696 .fp8e4m3 := iblk m c 1 t
/-- The weights' scales, as the kernel reads them at point `t`. -/
def wsIn (c : Dev nD) (t : Fin cfg0.N) : Vec F S1x13696 .f32 := iblk m c 2 t

/-- The accumulator after point `n`. -/
def accAt (c : Dev nD) : (n : ℕ) → n < cfg0.N → Vec F S32x13696 .f32
  | 0, hn => accStep (grid0.coords ⟨0, hn⟩) (xqOf (xIn m c)) (wIn m c ⟨0, hn⟩) (k0_pay4 (F := F))
  | n + 1, hn => accStep (grid0.coords ⟨n + 1, hn⟩) (xqOf (xIn m c)) (wIn m c ⟨n + 1, hn⟩) (accAt c n (Nat.lt_of_succ_lt hn))

/-- The accumulator after a point that is not the first: one step from what the point before left. -/
theorem accAt_pos (c : Dev nD) (t : Fin cfg0.N) (h : t.val ≠ 0) :
    accAt m c t.val t.isLt = accStep (grid0.coords t) (xqOf (xIn m c)) (wIn m c t)
      (accAt m c (t.val - 1) (Nat.lt_of_le_of_lt (Nat.sub_le _ _) t.isLt)) := by
  obtain ⟨n, hn⟩ := t
  cases n with
  | zero => exact absurd rfl h
  | succ n => rfl

/-- The invariant before position `n`: at the start anything in the scratch; afterwards the padded codes, and the accumulator
    as the point before left it. -/
def PhiS (c : Dev nD) : (n : ℕ) → n ≤ cfg0.N → sProp 𝕄
  | 0, _ => Pipeline.ΦA spec0 c
  | n + 1, hn => iprop(iprop(owns (c : Thread nD τ) scX fullShare (xqOf (xIn m c)) ∗ owns (c : Thread nD τ) scA fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scX fullShare (xqOf (xIn m c)) ∗ owns (c : Thread nD τ) scA fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scX fullShare (xqOf (xIn m c)) ∗ owns (c : Thread nD τ) scA fullShare (accAt m c (n - 1) (by omega))) ∗ (∃ r, prngReg c r)) := by
  cases n with
  | zero => exact absurd rfl hz
  | succ n => rfl

/-- The proof data of the pipeline on core `c`: the arrays as the region finds them; after the body at point `t` each input's
    buffer at its block, the first two results' at the values computed from the accumulator there, the last two at the
    activations' codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hsOf (accAt m c t.val t.isLt) (xsOf (xIn m c)) (wsIn m c t)
    | ⟨4, _⟩ => hcOf (accAt m c t.val t.isLt) (xsOf (xIn m c)) (wsIn m c t)
    | ⟨5, _⟩ => xcOf (xIn m c)
    | ⟨6, _⟩ => xsOf (xIn m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = hsOf (accAt m c t.val t.isLt) (xsOf (xIn m c)) (wsIn m c t) := by dsimp only [dats]
theorem after4 (c : Dev nD) (t : Fin cfg0.N) : (dats m 0 c).after 4 t = hcOf (accAt m c t.val t.isLt) (xsOf (xIn m c)) (wsIn m c t) := by dsimp only [dats]
theorem after5 (c : Dev nD) (t : Fin cfg0.N) : (dats m 0 c).after 5 t = xcOf (xIn m c) := by dsimp only [dats]
theorem after6 (c : Dev nD) (t : Fin cfg0.N) : (dats m 0 c).after 6 t = xsOf (xIn m c) := by dsimp only [dats]

/-- Each input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
/-- At the last point window 5's buffer still holds what the first point stored. -/
theorem before5_last (c : Dev nD) (t : Fin cfg0.N) (h0 : ¬t.val % 16 = 0) (h1 : t.val % 16 = 15) (d) :
    (dats m 0 c).before 5 t d = xcOf (xIn m c) := by
  rw [Dat.before_out_traj _ 5 rfl (fun _ _ => rfl) (fun t _ _ _ => by rw [after5, after5]) t.val t rfl d,
    if_neg (by rw [notFresh5_last t (fun h => h0 ((hcond0_0 t).mp h)) ((hcond0_1 t).mpr h1)]; exact Bool.false_ne_true)]
  dsimp only [dats]
/-- At the last point window 6's buffer still holds what the first point stored. -/
theorem before6_last (c : Dev nD) (t : Fin cfg0.N) (h0 : ¬t.val % 16 = 0) (h1 : t.val % 16 = 15) (d) :
    (dats m 0 c).before 6 t d = xsOf (xIn m c) := by
  rw [Dat.before_out_traj _ 6 rfl (fun _ _ => rfl) (fun t _ _ _ => by rw [after6, after6]) t.val t rfl d,
    if_neg (by rw [notFresh6_last t (fun h => h0 ((hcond0_0 t).mp h)) ((hcond0_1 t).mpr h1)]; exact Bool.false_ne_true)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input's buffer is left at its block. -/
theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]

set_option maxHeartbeats 9600000 in
/-- The body at any point: the point is the first, an inner or the last one, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, PhiS_castSucc m c t]
  have hN : t.val < 16 := lt_of_lt_of_eq t.isLt (show cfg0.N = 16 from N_0)
  by_cases h0 : t.val % 16 = 0
  · by_cases h1 : t.val % 16 = 15
    · exfalso; omega
    · rw [Dat.leavesExact_idle (dats m 0 c) 3 t (idle3_first t ((hcond0_0 t).mpr h0) (fun h => h1 ((hcond0_1 t).mp h))) (noFlush3_first t ((hcond0_0 t).mpr h0) (fun h => h1 ((hcond0_1 t).mp h)))]
      rw [Dat.leavesExact_idle (dats m 0 c) 4 t (idle4_first t ((hcond0_0 t).mpr h0) (fun h => h1 ((hcond0_1 t).mp h))) (noFlush4_first t ((hcond0_0 t).mpr h0) (fun h => h1 ((hcond0_1 t).mp h)))]
      rw [show (dats m 0 c).leavesExact 5 t = owns (c : Thread nD τ) (ms5 t) fullShare ((dats m 0 c).after 5 t) from by
        unfold Dat.leavesExact; rw [live5_first t ((hcond0_0 t).mpr h0) (fun h => h1 ((hcond0_1 t).mp h))], after5]
      rw [show (dats m 0 c).leavesExact 6 t = owns (c : Thread nD τ) (ms6 t) fullShare ((dats m 0 c).after 6 t) from by
        unfold Dat.leavesExact; rw [live6_first t ((hcond0_0 t).mpr h0) (fun h => h1 ((hcond0_1 t).mp h))], after6]
      obtain rfl : t = t0_0 := Fin.ext (show t.val = 0 by omega)
      rw [PhiS_zero m c t0_0.val _ rfl, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) scX (Memref.isWhole_whole _) scA (Memref.isWhole_whole _) ((hcond0_0 t0_0).mpr h0) (fun h => h1 ((hcond0_1 t0_0).mp h)) (iblk m c 0 t0_0) (iblk m c 1 t0_0) (iblk m c 2 t0_0) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexact H5
      iexact H6
  · by_cases h1 : t.val % 16 = 15
    · rw [show (dats m 0 c).leavesExact 3 t = owns (c : Thread nD τ) (ms3 t) fullShare ((dats m 0 c).after 3 t) from by
        unfold Dat.leavesExact; rw [live3_last t (fun h => h0 ((hcond0_0 t).mp h)) ((hcond0_1 t).mpr h1)], after3]
      rw [show (dats m 0 c).leavesExact 4 t = owns (c : Thread nD τ) (ms4 t) fullShare ((dats m 0 c).after 4 t) from by
        unfold Dat.leavesExact; rw [live4_last t (fun h => h0 ((hcond0_0 t).mp h)) ((hcond0_1 t).mpr h1)], after4]
      rw [show (dats m 0 c).leavesExact 5 t = owns (c : Thread nD τ) (ms5 t) fullShare ((dats m 0 c).after 5 t) from by
        unfold Dat.leavesExact; rw [idle5_last t (fun h => h0 ((hcond0_0 t).mp h)) ((hcond0_1 t).mpr h1), flush5_last t (fun h => h0 ((hcond0_0 t).mp h)) ((hcond0_1 t).mpr h1)], after5]
      rw [show (dats m 0 c).leavesExact 6 t = owns (c : Thread nD τ) (ms6 t) fullShare ((dats m 0 c).after 6 t) from by
        unfold Dat.leavesExact; rw [idle6_last t (fun h => h0 ((hcond0_0 t).mp h)) ((hcond0_1 t).mpr h1), flush6_last t (fun h => h0 ((hcond0_0 t).mp h)) ((hcond0_1 t).mpr h1)], after6]
      have hz : t.val ≠ 0 := by omega
      rw [PhiS_pos m c _ _ hz, accAt_pos m c t hz]
      simp only [before5_last m c t h0 h1, before6_last m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scX (Memref.isWhole_whole _) scA (Memref.isWhole_whole _) (fun h => h0 ((hcond0_0 t).mp h)) ((hcond0_1 t).mpr h1) (iblk m c 0 t) (iblk m c 1 t) (iblk m c 2 t) _ _ _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 3 t (idle3_inner t (fun h => h0 ((hcond0_0 t).mp h)) (fun h => h1 ((hcond0_1 t).mp h))) (noFlush3_inner t (fun h => h0 ((hcond0_0 t).mp h)) (fun h => h1 ((hcond0_1 t).mp h)))]
      rw [Dat.leavesExact_idle (dats m 0 c) 4 t (idle4_inner t (fun h => h0 ((hcond0_0 t).mp h)) (fun h => h1 ((hcond0_1 t).mp h))) (noFlush4_inner t (fun h => h0 ((hcond0_0 t).mp h)) (fun h => h1 ((hcond0_1 t).mp h)))]
      rw [Dat.leavesExact_idle (dats m 0 c) 5 t (idle5_inner t (fun h => h0 ((hcond0_0 t).mp h)) (fun h => h1 ((hcond0_1 t).mp h))) (noFlush5_inner t (fun h => h0 ((hcond0_0 t).mp h)) (fun h => h1 ((hcond0_1 t).mp h)))]
      rw [Dat.leavesExact_idle (dats m 0 c) 6 t (idle6_inner t (fun h => h0 ((hcond0_0 t).mp h)) (fun h => h1 ((hcond0_1 t).mp h))) (noFlush6_inner t (fun h => h0 ((hcond0_0 t).mp h)) (fun h => h1 ((hcond0_1 t).mp h)))]
      have hz : t.val ≠ 0 := by omega
      rw [PhiS_pos m c _ _ hz, accAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_inner c (grid0.coords t) (ms0 t) (hs0 t) (ms1 t) (hs1 t) (ms2 t) (hs2 t) (ms3 t) (hs3 t) (ms4 t) (hs4 t) (ms5 t) (hs5 t) (ms6 t) (hs6 t) scX (Memref.isWhole_whole _) scA (Memref.isWhole_whole _) (fun h => h0 ((hcond0_0 t).mp h)) (fun h => h1 ((hcond0_1 t).mp h)) (iblk m c 0 t) (iblk m c 1 t) (iblk m c 2 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: from any memory with zero counters the program terminates, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result arrays at the end -/

/-- Result 1: the scales of the gated activation. -/
abbrev result3 (c : Dev nD) : Buf (Elt F) ((c : Thread nD τ).loc main_v2_0) := hsOf (accAt m c 15 (by rw [show cfg0.N = 16 from N_0]; decide)) (xsOf (xIn m c)) (wsIn m c t0_15)

/-- Window 3's one write-back, at the last point, writes it. -/
theorem flushed3 (c : Dev nD) (t : Fin cfg0.N) (hf : (cfg0.win 3).flush t = true) :
    (dats m 0 c).flushed 3 t = ((cfg0.win 3).blk t).view.read (Elt F) (result3 m c) := by
  have hN : cfg0.N = 16 := N_0
  have h3 : t.val = 15 := by have := (flush0_3 t).mp hf; have := t.isLt; omega
  obtain rfl : t = t0_15 := Fin.ext h3
  show (cfg0.win 3).cut (grid0.coords t0_15) ((dats m 0 c).after 3 t0_15) = _
  rw [after3]
  have hz' : (fun a => win0_3.index t0_15 a * main_v2_0.ty.shape.size a) = fun _ => 0 := funext fun a => by fin_cases a <;> decide
  exact (Memref.read_access_unit_zero (Elt F) main_v2_0 hz' (fun a => by rw [congrFun hz' a]; simp) (result3 m c)).symm

/-- So the array ends at it. -/
theorem final3 (c : Dev nD) : (dats m 0 c).arrAt 3 cfg0.N = result3 m c :=
  (dats m 0 c).arrAt_eq_of_cover 3 (result3 m c) (flushed3 m c) fun i =>
    ⟨t0_15, (flush0_3 t0_15).mpr rfl, by
      show i ∈ ((View.whole main_v2_0).slice (win0_3.rect t0_15)).set
      rw [View.set_slice_whole, Rect.mem_set_unit]
      intro a
      have h0 : (i 0 : Nat) < 24 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 24 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- Result 2: the codes of the gated activation. -/
abbrev result4 (c : Dev nD) : Buf (Elt F) ((c : Thread nD τ).loc main_v2_1) := hcOf (accAt m c 15 (by rw [show cfg0.N = 16 from N_0]; decide)) (xsOf (xIn m c)) (wsIn m c t0_15)

/-- Window 4's one write-back, at the last point, writes it. -/
theorem flushed4 (c : Dev nD) (t : Fin cfg0.N) (hf : (cfg0.win 4).flush t = true) :
    (dats m 0 c).flushed 4 t = ((cfg0.win 4).blk t).view.read (Elt F) (result4 m c) := by
  have hN : cfg0.N = 16 := N_0
  have h3 : t.val = 15 := by have := (flush0_4 t).mp hf; have := t.isLt; omega
  obtain rfl : t = t0_15 := Fin.ext h3
  show (cfg0.win 4).cut (grid0.coords t0_15) ((dats m 0 c).after 4 t0_15) = _
  rw [after4]
  have hz' : (fun a => win0_4.index t0_15 a * main_v2_1.ty.shape.size a) = fun _ => 0 := funext fun a => by fin_cases a <;> decide
  exact (Memref.read_access_unit_zero (Elt F) main_v2_1 hz' (fun a => by rw [congrFun hz' a]; simp) (result4 m c)).symm

/-- So the array ends at it. -/
theorem final4 (c : Dev nD) : (dats m 0 c).arrAt 4 cfg0.N = result4 m c :=
  (dats m 0 c).arrAt_eq_of_cover 4 (result4 m c) (flushed4 m c) fun i =>
    ⟨t0_15, (flush0_4 t0_15).mpr rfl, by
      show i ∈ ((View.whole main_v2_1).slice (win0_4.rect t0_15)).set
      rw [View.set_slice_whole, Rect.mem_set_unit]
      intro a
      have h0 : (i 0 : Nat) < 24 := (i 0).isLt
      have h1 : (i 1 : Nat) < 6848 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 24 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 6848 from by decide +kernel]; omega⟩

/-- Result 3: the codes of the activations. -/
abbrev result5 (c : Dev nD) : Buf (Elt F) ((c : Thread nD τ).loc main_v2_2) := xcOf (xIn m c)

/-- Window 5's one write-back, at the last point, writes it. -/
theorem flushed5 (c : Dev nD) (t : Fin cfg0.N) (hf : (cfg0.win 5).flush t = true) :
    (dats m 0 c).flushed 5 t = ((cfg0.win 5).blk t).view.read (Elt F) (result5 m c) := by
  have hN : cfg0.N = 16 := N_0
  have h3 : t.val = 15 := by have := (flush0_5 t).mp hf; have := t.isLt; omega
  obtain rfl : t = t0_15 := Fin.ext h3
  show (cfg0.win 5).cut (grid0.coords t0_15) ((dats m 0 c).after 5 t0_15) = _
  rw [after5]
  have hz' : (fun a => win0_5.index t0_15 a * main_v2_2.ty.shape.size a) = fun _ => 0 := funext fun a => by fin_cases a <;> decide
  exact (Memref.read_access_unit_zero (Elt F) main_v2_2 hz' (fun a => by rw [congrFun hz' a]; simp) (result5 m c)).symm

/-- So the array ends at it. -/
theorem final5 (c : Dev nD) : (dats m 0 c).arrAt 5 cfg0.N = result5 m c :=
  (dats m 0 c).arrAt_eq_of_cover 5 (result5 m c) (flushed5 m c) fun i =>
    ⟨t0_15, (flush0_5 t0_15).mpr rfl, by
      show i ∈ ((View.whole main_v2_2).slice (win0_5.rect t0_15)).set
      rw [View.set_slice_whole, Rect.mem_set_unit]
      intro a
      have h0 : (i 0 : Nat) < 24 := (i 0).isLt
      have h1 : (i 1 : Nat) < 4096 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 24 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 4096 from by decide +kernel]; omega⟩

/-- Result 4: the scales of the activations. -/
abbrev result6 (c : Dev nD) : Buf (Elt F) ((c : Thread nD τ).loc main_v2_3) := xsOf (xIn m c)

/-- Window 6's one write-back, at the last point, writes it. -/
theorem flushed6 (c : Dev nD) (t : Fin cfg0.N) (hf : (cfg0.win 6).flush t = true) :
    (dats m 0 c).flushed 6 t = ((cfg0.win 6).blk t).view.read (Elt F) (result6 m c) := by
  have hN : cfg0.N = 16 := N_0
  have h3 : t.val = 15 := by have := (flush0_6 t).mp hf; have := t.isLt; omega
  obtain rfl : t = t0_15 := Fin.ext h3
  show (cfg0.win 6).cut (grid0.coords t0_15) ((dats m 0 c).after 6 t0_15) = _
  rw [after6]
  have hz' : (fun a => win0_6.index t0_15 a * main_v2_3.ty.shape.size a) = fun _ => 0 := funext fun a => by fin_cases a <;> decide
  exact (Memref.read_access_unit_zero (Elt F) main_v2_3 hz' (fun a => by rw [congrFun hz' a]; simp) (result6 m c)).symm

/-- So the array ends at it. -/
theorem final6 (c : Dev nD) : (dats m 0 c).arrAt 6 cfg0.N = result6 m c :=
  (dats m 0 c).arrAt_eq_of_cover 6 (result6 m c) (flushed6 m c) fun i =>
    ⟨t0_15, (flush0_6 t0_15).mpr rfl, by
      show i ∈ ((View.whole main_v2_3).slice (win0_6.rect t0_15)).set
      rw [View.set_slice_whole, Rect.mem_set_unit]
      intro a
      have h0 : (i 0 : Nat) < 24 := (i 0).isLt
      have h1 : (i 1 : Nat) < 1 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 24 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 1 from by decide +kernel]; omega⟩

/-- THE RUN, READ: the four result arrays at their named values. -/
theorem run : θ_run defs (onTc (τ := τ) (main (F := F))) ⟨m, fun _ => 0, ρ⟩ fun r => ∀ c : Dev nD,
      r.2.mem ((c : Thread nD τ).loc main_v2_0) = result3 m c
      ∧ r.2.mem ((c : Thread nD τ).loc main_v2_1) = result4 m c
      ∧ r.2.mem ((c : Thread nD τ).loc main_v2_2) = result5 m c
      ∧ r.2.mem ((c : Thread nD τ).loc main_v2_3) = result6 m c :=
  (θ_run defs _ _).mono (fun _ h c => ⟨((h c).1 3).trans (final3 m c), ((h c).1 4).trans (final4 m c),
    ((h c).1 5).trans (final5 m c), ((h c).1 6).trans (final6 m c)⟩) (run_main m ρ)

end Cert.KernelIdeal.Hand

end
-- ==== Proof.Swiglu.KernelFrame.lean ====
/- The frame of the kernel as printed, from the frame of its idealization: the two programs are the same text. -/
module

public import proofs.«01_k».proof.Proof.Swiglu.Run
public import proofs.«01_k».proof.Proof.Gen.Kernel

@[expose] public section

set_option maxRecDepth 16384

noncomputable section

namespace Cert.Kernel.Hand

open Idealize.ShloMosaic Idealize.SL.Sem

variable {F : FTy → Type} [FloatOps F]

local instance : Cert.KernelIdeal.Facts := Cert.KernelIdeal.Gen.facts
local instance : Cert.Kernel.Facts := Cert.Kernel.Gen.facts

/-- The first window of the body's text is the same in both programs. -/
theorem part1_eq : Cert.Kernel.k0_part1 (F := F) = Cert.KernelIdeal.k0_part1 (F := F) := rfl

/-- The second window of the body's text is the same in both programs. -/
theorem part2_eq : Cert.Kernel.k0_part2 (F := F) = Cert.KernelIdeal.k0_part2 (F := F) := rfl

/-- The two bodies are the same. -/
theorem body_eq : Cert.Kernel.cc0_swiglu_gate_up_fp8 (F := F) = Cert.KernelIdeal.cc0_swiglu_gate_up_fp8 (F := F) := by
  unfold Cert.Kernel.cc0_swiglu_gate_up_fp8 Cert.KernelIdeal.cc0_swiglu_gate_up_fp8
  rfl

/-- The two body tables are the same. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The two tables of definitions are the same. -/
theorem defs_eq : Cert.Kernel.defs (F := F) = Cert.KernelIdeal.defs (F := F) :=
  congrArg (Pipeline.defs Cert.Kernel.pcfgs) defs₀_eq

/-- The printed kernel runs from every memory, leaves its three arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.KernelIdeal.Hand.frame (F := F) m ρ

end Cert.Kernel.Hand

end
-- ==== Proof.Swiglu.Exponent.lean ====
/-
  THE EXPONENT, AS A NUMBER.

  The kernel finds the exponent of a positive number by counting the powers of two, from `2 ^ -126` to `2 ^ 125`, that it
  reaches; the reference takes the integer part of its logarithm to the base two, adds one, and keeps the result between
  `-126` and `126`. The two are one integer for every extended real. And the word `n` placed in the exponent field of a
  float reads as `2 ^ (n - 127)`.
-/
module

public import Idealize.ShloMosaic.PureOps.Ideal
public import Idealize.ShloMosaic.Lib.WordSum

@[expose] public section

noncomputable section

namespace Swiglu

open Idealize.ShloMosaic

/-- How many of the powers `2 ^ -126, …, 2 ^ 125` are at most `q`. -/
def count (q : EReal) : ℕ := (Finset.univ.filter fun j : Fin 252 => (((2 : ℝ) ^ ((j.val : ℤ) - 126) : ℝ) : EReal) ≤ q).card

/-- The count is at most the number of powers. -/
theorem count_le (q : EReal) : count q ≤ 252 := (Finset.card_le_univ _).trans (by simp)

/-- The number of the `j < 252` that are below `N`. -/
theorem card_below (N : ℕ) : (Finset.univ.filter fun j : Fin 252 => j.val < N).card = min 252 N := by
  rw [← Fintype.card_subtype, Fintype.card_congr (β := Fin (min 252 N))]
  · simp
  · exact ⟨fun x => ⟨x.1.val, by have := x.1.isLt; have := x.2; omega⟩, fun y => ⟨⟨y.val, by have := y.isLt; omega⟩, by have := y.isLt; simp only; omega⟩,
      fun x => rfl, fun y => rfl⟩

/-- A number that is not positive reaches no power of two. -/
theorem count_of_nonpos (q : EReal) (h : q ≤ 0) : count q = 0 := by
  rw [count, Finset.card_eq_zero, Finset.filter_eq_empty_iff]
  intro j _ hj
  have h0 : (((2 : ℝ) ^ ((j.val : ℤ) - 126) : ℝ) : EReal) ≤ ((0 : ℝ) : EReal) := hj.trans h
  rw [EReal.coe_le_coe_iff] at h0
  exact absurd h0 (not_le.2 (by positivity))

/-- Infinity reaches every one. -/
theorem count_top : count ⊤ = 252 := by simp [count]

/-- A positive real reaches `2 ^ (j - 126)` exactly when `j - 126` is at most the integer part of its logarithm. -/
theorem count_coe (r : ℝ) (h : 0 < r) : count (r : EReal) = min 252 (⌊Real.log r / Real.log 2⌋ + 127).toNat := by
  rw [← card_below, count]
  congr 1
  refine Finset.filter_congr fun j _ => ?_
  rw [EReal.coe_le_coe_iff]
  have hl : 0 < Real.log 2 := Real.log_pos (by norm_num)
  have h3 : (2 : ℝ) ^ ((j.val : ℤ) - 126) ≤ r ↔ (j.val : ℤ) - 126 ≤ ⌊Real.log r / Real.log 2⌋ := by
    rw [Int.le_floor, le_div_iff₀ hl, ← Real.log_zpow, Real.log_le_log_iff (by positivity) h]
  rw [h3]
  omega

/-- The reference's exponent of `q` is the kernel's. -/
theorem exponent_eq (q : EReal) :
    min ((126 : ℝ) : EReal) (max ((-126 : ℝ) : EReal) (Ideal.liftRound Int.floor (Ideal.div (Ideal.log q) ((Real.log 2 : ℝ) : EReal)) + ((1 : ℝ) : EReal)))
      = ((((count q : ℤ) - 126 : ℤ) : ℝ) : EReal) := by
  have hl : 0 < Real.log 2 := Real.log_pos (by norm_num)
  have bot (q : EReal) (hq : q ≤ 0) (hlog : Ideal.log q = ⊥) : min ((126 : ℝ) : EReal) (max ((-126 : ℝ) : EReal) (Ideal.liftRound Int.floor (Ideal.div (Ideal.log q) ((Real.log 2 : ℝ) : EReal)) + ((1 : ℝ) : EReal)))
      = ((((count q : ℤ) - 126 : ℤ) : ℝ) : EReal) := by
    rw [hlog, count_of_nonpos q hq, Ideal.div_coe hl.ne', EReal.bot_mul_coe_of_pos (by positivity)]
    show min ((126 : ℝ) : EReal) (max ((-126 : ℝ) : EReal) (⊥ + ((1 : ℝ) : EReal))) = _
    rw [EReal.bot_add, max_eq_left bot_le, min_eq_right (by rw [EReal.coe_le_coe_iff]; norm_num)]
    norm_num
  induction q with
  | bot => exact bot ⊥ bot_le rfl
  | top =>
    rw [count_top, Ideal.log_top, Ideal.div_coe hl.ne', EReal.top_mul_coe_of_pos (by positivity)]
    show min ((126 : ℝ) : EReal) (max ((-126 : ℝ) : EReal) (⊤ + ((1 : ℝ) : EReal))) = _
    rw [EReal.top_add_coe, max_eq_right le_top, min_eq_left le_top]
    norm_num
  | coe r =>
    by_cases hr : r ≤ 0
    · exact bot r (by exact_mod_cast hr) (by rw [Ideal.log_coe, if_pos hr])
    · rw [Ideal.log_coe, if_neg hr, Ideal.div_coe hl.ne', count_coe r (not_le.1 hr), ← EReal.coe_mul]
      show min ((126 : ℝ) : EReal) (max ((-126 : ℝ) : EReal) (((⌊Real.log r * (1 / Real.log 2)⌋ : ℝ) : EReal) + ((1 : ℝ) : EReal))) = _
      rw [mul_one_div, ← EReal.coe_add]
      generalize ⌊Real.log r / Real.log 2⌋ = L
      rw [← EReal.coe_strictMono.monotone.map_max, ← EReal.coe_strictMono.monotone.map_min]
      congr 1
      have : ((min 252 (L + 127).toNat : ℕ) : ℤ) - 126 = min 126 (max (-126) (L + 1)) := by omega
      rw [this]
      push_cast
      rfl

/-- The fields of the word `n` placed in the exponent field: sign zero, exponent `n`, fraction zero. -/
theorem fields : ∀ n : Fin 255, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- The word `n` placed in the exponent field of a float reads as `2 ^ (n - 127)`, for `1 ≤ n ≤ 254`. -/
theorem ieee_pow2 (n : ℕ) (h1 : 1 ≤ n) (h2 : n ≤ 254) :
    Ideal.ieee 8 23 (BitVec.ofNat 32 n <<< 23) = (((2 : ℝ) ^ ((n : ℤ) - 127) : ℝ) : EReal) := by
  obtain ⟨hs, he, hf⟩ : (BitVec.extractLsb' 31 1 (BitVec.ofNat 32 n <<< 23) == 1#1) = false
      ∧ (BitVec.extractLsb' 23 8 (BitVec.ofNat 32 n <<< 23)).toNat = n
      ∧ (BitVec.extractLsb' 0 23 (BitVec.ofNat 32 n <<< 23)).toNat = 0 := fields ⟨n, by omega⟩
  generalize BitVec.ofNat 32 n <<< 23 = b at hs he hf ⊢
  simp only [Ideal.ieee, Nat.reduceAdd, hs, he, hf]
  rw [if_neg (by norm_num; omega), if_neg (by omega)]
  congr 1
  have : (2 : ℝ) ^ ((n : ℤ) - 127) = (2 : ℝ) ^ (23 : ℤ) * (2 : ℝ) ^ ((n : ℤ) - (2 ^ (8 - 1) - 1) - 23) := by
    rw [← zpow_add₀ (by norm_num)]; congr 1; norm_num
  rw [this]
  norm_num

/-- The power of an integer, as the power of the real. -/
theorem exp2_int (e : ℤ) : Ideal.exp2 (((e : ℤ) : ℝ) : EReal) = (((2 : ℝ) ^ e : ℝ) : EReal) := by
  rw [Ideal.exp2_coe]
  congr 1
  exact Real.rpow_intCast 2 e

/-- The exponent of a row whose largest magnitude is `a`, as an integer: zero for a row of zeros, and otherwise the count
    at `q`, from `-126`. -/
def expo (a q : EReal) : ℤ := if a = 0 then 0 else (count q : ℤ) - 126

/-- The exponent as a machine word. -/
def word (a q : EReal) : BitVec 32 := if a = 0 then 0#32 else BitVec.ofNat 32 (count q) - 126#32

/-- The exponent is at least `-126`. -/
theorem le_expo (a q : EReal) : -126 ≤ expo a q := by
  unfold expo; split <;> omega

/-- The exponent is at most `126`. -/
theorem expo_le (a q : EReal) : expo a q ≤ 126 := by
  have := count_le q
  unfold expo; split <;> omega

/-- The word moved up by the bias is the number `e + 127`. -/
theorem word_add (a q : EReal) : word a q + 127#32 = BitVec.ofNat 32 (expo a q + 127).toNat := by
  have := count_le q
  unfold word expo
  split
  · rfl
  · apply BitVec.eq_of_toNat_eq
    simp only [BitVec.toNat_add, BitVec.toNat_sub, BitVec.toNat_ofNat]
    omega

/-- The negated word moved up by the bias is the number `127 - e`. -/
theorem word_neg_add (a q : EReal) : 0#32 - word a q + 127#32 = BitVec.ofNat 32 (127 - expo a q).toNat := by
  have := count_le q
  unfold word expo
  split
  · rfl
  · apply BitVec.eq_of_toNat_eq
    simp only [BitVec.toNat_add, BitVec.toNat_sub, BitVec.toNat_ofNat]
    omega

/-- The scale: the word moved up by the bias and placed in the exponent field reads as `2 ^ e`. -/
theorem scale_word (a q : EReal) : Ideal.ieee 8 23 ((word a q + 127#32) <<< 23) = (((2 : ℝ) ^ expo a q : ℝ) : EReal) := by
  have h1 := le_expo a q
  have h2 := expo_le a q
  rw [word_add, ieee_pow2 _ (by omega) (by omega)]
  congr 2; omega

/-- The inverse scale: the negated word, the same way, reads as `2 ^ -e`. -/
theorem inv_word (a q : EReal) : Ideal.ieee 8 23 ((0#32 - word a q + 127#32) <<< 23) = (((2 : ℝ) ^ (-expo a q) : ℝ) : EReal) := by
  have h1 := le_expo a q
  have h2 := expo_le a q
  rw [word_neg_add, ieee_pow2 _ (by omega) (by omega)]
  congr 2; omega

/-- The words the count compares with: the `j`-th reads as `2 ^ (j - 126)`. -/
theorem power_word (j : Fin 252) : Ideal.ieee 8 23 ((BitVec.ofNat 32 j.val - 126#32 + 127#32) <<< 23) = (((2 : ℝ) ^ ((j.val : ℤ) - 126) : ℝ) : EReal) := by
  have hj := j.isLt
  have : BitVec.ofNat 32 j.val - 126#32 + 127#32 = BitVec.ofNat 32 (j.val + 1) := by
    apply BitVec.eq_of_toNat_eq
    simp only [BitVec.toNat_add, BitVec.toNat_sub, BitVec.toNat_ofNat]
    omega
  rw [this, ieee_pow2 _ (by omega) (by omega)]
  congr 2; push_cast; ring

/-- A sum of 252 machine words, each one or zero, is the number of ones. -/
theorem fold_ones (p : Fin 252 → Prop) [DecidablePred p] :
    (Finset.univ.fold IntOp.addi (0#32 : BitVec 32) fun j : Fin 252 => if p j then 1#32 else 0#32)
      = BitVec.ofNat 32 (Finset.univ.filter p).card := by
  have key : ∀ S : Finset (Fin 252), (S.fold IntOp.addi (0#32 : BitVec 32) fun j => if p j then 1#32 else 0#32) = BitVec.ofNat 32 (S.filter p).card := by
    intro S
    induction S using Finset.cons_induction with
    | empty => rfl
    | cons a S ha ih =>
      rw [Finset.fold_cons, ih, Finset.filter_cons]
      split
      · show 1#32 + _ = _
        rw [Finset.card_cons, BitVec.add_comm, BitVec.ofNat_add]
      · exact BitVec.zero_add _
  exact key _

end Swiglu

end
-- ==== Proof.Swiglu.Scale.lean ====
/-
  THE SCALES OF THE KERNEL AND OF THE REFERENCE ARE EQUAL.

  Both quantisers begin from the largest magnitude of each row. The kernel forms the exponent as a machine word and places
  it in the exponent field of a float; the reference forms it as a real and raises two to it. This module states the two
  as functions of the vector of largest magnitudes and proves that the scales, and the inverse scales, agree.
-/
module

public import proofs.«01_k».proof.Proof.Gen.KernelIdeal.Skeleton
public import proofs.«01_k».proof.Proof.Gen.ReferenceIdeal.Skeleton
public import proofs.«01_k».proof.Proof.Swiglu.Exponent
public import Idealize.ShloMosaic.PureOps.IdealRules
public import Idealize.ShloMosaic.PureOps.Ideal.Laws
public import Idealize.ShloMosaic.Lib.ValueIdx
public import Idealize.ShloMosaic.Lib.Pointwise

@[expose] public section

set_option maxRecDepth 16384

noncomputable section

namespace Cert.KernelIdeal.Hand

open Cert.KernelIdeal Cert.KernelIdeal.Gen
open Idealize.ShloMosaic

/-- One over the largest finite fp8 value, as the float constant both programs multiply by. -/
def recip : EReal := FloatOps.ofBits (F := Ideal) .f32 0x3B124925#32

/-- The kernel's exponent words, from the largest magnitudes of the rows. -/
def expWord (v22 : FVec Ideal S24x1 .f32) : IVec S24x1 32 :=
  select (cmpf .oeq v22 (broadcast S24x1 (Scalar.ofBits .f32 0x00000000#32))) (broadcast S24x1 0#32)
    (subi (shapeCast S24x1 (multiReductionI .add [1] S24 (select
        (cmpf .oge (broadcastTo S24x252 (mulf v22 (broadcast S24x1 (Scalar.ofBits .f32 0x3B124925#32))) broadcasts_S24x1_S24x252)
          (bitcastToFloat .f32 (shli (addi (subi (iota .tc S24x252 32 [1] iota_S24x252_d1_w32) (broadcast S24x252 126#32)) (broadcast S24x252 127#32)) (broadcast S24x252 23#32))))
        (broadcast S24x252 1#32) (broadcast S24x252 0#32)) 0#32 reduces_S24x252_S24 rfl) shapeCasts_S24_S24x1) (broadcast S24x1 126#32))

/-- A selection on a decided condition's bit. -/
theorem sel_bit {α : Type} (p : Prop) [Decidable p] (a b : α) : (if BitVec.ofBool (decide p) = 1 then a else b) = if p then a else b := by
  by_cases h : p
  · rw [decide_eq_true h, if_pos (by decide), if_pos h]
  · rw [decide_eq_false h, if_neg (by decide), if_neg h]

/-- A vector of 24 seen as a column. -/
theorem column {α : Type} (v : S24.Idx → α) (r : Fin 24) (c : Fin 1) : shapeCast S24x1 v shapeCasts_S24_S24x1 (ix2 r c) = v (ix1 r) := by
  simp only [pointwise]

/-- A sum of words along a row of 252, as the fold over the row's positions. -/
theorem rowSum (w : IVec S24x252 32) (r : Fin 24) (c : Fin 1) :
    shapeCast S24x1 (multiReductionI .add [1] S24 w 0#32 reduces_S24x252_S24 rfl) shapeCasts_S24_S24x1 (ix2 r c)
      = Finset.univ.fold IntOp.addi 0#32 fun k : Fin 252 => w (ix2 r k) := by
  rw [column]
  simp only [pointwise]

/-- A column spread over 252 lanes is, at a lane, the column's entry. -/
theorem spread (v : FVec Ideal S24x1 .f32) (r : Fin 24) (k : Fin 252) (c : Fin 1) :
    broadcastTo S24x252 v broadcasts_S24x1_S24x252 (ix2 r k) = v (ix2 r c) := by
  rw [show c = 0 from Subsingleton.elim _ _]
  simp only [pointwise]
  rfl

/-- The bits of the float zero read as zero. -/
theorem bits_zero : FloatOps.ofBits (F := Ideal) .f32 0x00000000#32 = (0 : EReal) := by
  simp [Ideal.ofBits, Ideal.ieee, -EReal.coe_mul]

/-- The power the count compares with at lane `k`. -/
theorem lane (r : Fin 24) (k : Fin 252) :
    bitcastToFloat (F := Ideal) .f32 (shli (addi (subi (iota .tc S24x252 32 [1] iota_S24x252_d1_w32) (broadcast S24x252 126#32)) (broadcast S24x252 127#32)) (broadcast S24x252 23#32)) (ix2 r k)
      = (((2 : ℝ) ^ ((k.val : ℤ) - 126) : ℝ) : EReal) := by
  rw [← Swiglu.power_word k]
  show Ideal.ieee 8 23 ((BitVec.ofNat 32 (0 * 252 + k.val) - 126#32 + 127#32) <<< 23#32) = _
  rw [Nat.zero_mul, Nat.zero_add]
  rfl

/-- A row's exponent word is the count of the powers its scaled largest magnitude reaches, less `126`; zero for a row of zeros. -/
theorem expWord_apply (A : FVec Ideal S24x1 .f32) (j : S24x1.Idx) : expWord A j = Swiglu.word (A j) (A j * recip) := by
  obtain ⟨r, c, rfl⟩ : ∃ (r : Fin 24) (c : Fin 1), j = ix2 r c := ⟨j 0, j 1, ValueIdx.eq_ix2 j⟩
  have hsum : shapeCast S24x1 (multiReductionI .add [1] S24 (select
        (cmpf .oge (broadcastTo S24x252 (mulf A (broadcast S24x1 (Scalar.ofBits .f32 0x3B124925#32))) broadcasts_S24x1_S24x252)
          (bitcastToFloat .f32 (shli (addi (subi (iota .tc S24x252 32 [1] iota_S24x252_d1_w32) (broadcast S24x252 126#32)) (broadcast S24x252 127#32)) (broadcast S24x252 23#32))))
        (broadcast S24x252 1#32) (broadcast S24x252 0#32)) 0#32 reduces_S24x252_S24 rfl) shapeCasts_S24_S24x1 (ix2 r c)
      = BitVec.ofNat 32 (Swiglu.count (A (ix2 r c) * recip)) := by
    rw [rowSum, Swiglu.count, ← Swiglu.fold_ones]
    congr 1
    funext k
    rw [ValueIdx.select_apply, ValueIdx.cmpf_apply, lane, spread _ r k c]
    show (if BitVec.ofBool (decide ((((2 : ℝ) ^ ((k.val : ℤ) - 126) : ℝ) : EReal) ≤ A (ix2 r c) * recip)) = 1 then 1#32 else 0#32) = _
    rw [sel_bit]
  unfold expWord
  rw [ValueIdx.select_apply]
  show (if BitVec.ofBool (decide (A (ix2 r c) = FloatOps.ofBits (F := Ideal) .f32 0x00000000#32)) = 1 then 0#32
    else shapeCast S24x1 _ shapeCasts_S24_S24x1 (ix2 r c) - 126#32) = _
  rw [hsum, bits_zero, sel_bit, Swiglu.word]

end Cert.KernelIdeal.Hand

namespace Cert.ReferenceIdeal.Hand

open Cert.ReferenceIdeal Cert.ReferenceIdeal.Gen
open Idealize.ShloMosaic
open Cert.KernelIdeal.Hand (recip bits_zero expWord expWord_apply sel_bit)

/-- The reference's exponents, from the largest magnitudes of the rows. -/
def expReal (v5 : FVec Ideal S24x1 .f32) : FVec Ideal S24x1 .f32 :=
  select (cmpf .oeq v5 (broadcast S24x1 (Scalar.ofBits .f32 0x00000000#32))) (broadcast S24x1 (Scalar.ofBits .f32 0x00000000#32))
    (minimumf (broadcast S24x1 (Scalar.ofBits .f32 0x42FC0000#32)) (maximumf (broadcast S24x1 (Scalar.ofBits .f32 0xC2FC0000#32))
      (addf (floor (divf (log (mulf v5 (broadcast S24x1 (Scalar.ofBits .f32 0x3B124925#32)))) (broadcast S24x1 (Named.named κ "ln2" 0x3F317218#32))))
        (broadcast S24x1 (Scalar.ofBits .f32 0x3F800000#32)))))

/-- The float one reads as one. -/
theorem bits_one : FloatOps.ofBits (F := Ideal) .f32 0x3F800000#32 = ((1 : ℝ) : EReal) := by
  simp [Ideal.ofBits, Ideal.ieee, -EReal.coe_mul]; norm_num
/-- The float 126 reads as 126. -/
theorem bits_126 : FloatOps.ofBits (F := Ideal) .f32 0x42FC0000#32 = ((126 : ℝ) : EReal) := by
  simp [Ideal.ofBits, Ideal.ieee, -EReal.coe_mul]; norm_num
/-- The float -126 reads as -126. -/
theorem bits_neg126 : FloatOps.ofBits (F := Ideal) .f32 0xC2FC0000#32 = ((-126 : ℝ) : EReal) := by
  simp [Ideal.ofBits, Ideal.ieee, -EReal.coe_mul]; norm_num

/-- A row's exponent in the reference is the same integer. -/
theorem expReal_apply (A : FVec Ideal S24x1 .f32) (j : S24x1.Idx) : expReal A j = (((Swiglu.expo (A j) (A j * recip) : ℤ) : ℝ) : EReal) := by
  unfold expReal
  show (if BitVec.ofBool (decide (A j = FloatOps.ofBits (F := Ideal) .f32 0x00000000#32)) = 1 then FloatOps.ofBits (F := Ideal) .f32 0x00000000#32
    else min (FloatOps.ofBits (F := Ideal) .f32 0x42FC0000#32) (max (FloatOps.ofBits (F := Ideal) .f32 0xC2FC0000#32)
      (Ideal.liftRound Int.floor (Ideal.div (Ideal.log (A j * recip)) (Named.named (F := Ideal) (φ := .f32) κ "ln2" 0x3F317218#32)) + FloatOps.ofBits (F := Ideal) .f32 0x3F800000#32))) = _
  rw [bits_zero, bits_one, bits_126, bits_neg126, show Named.named (F := Ideal) (φ := .f32) κ "ln2" 0x3F317218#32 = ((Real.log 2 : ℝ) : EReal) from IdealRules.named_const.ideal_named_scalar _ _ _ _ rfl,
    Swiglu.exponent_eq, sel_bit, Swiglu.expo]
  split
  · norm_num
  · rfl

/-- The scales agree: the exponent word moved up by the bias and placed in the exponent field is two to the exponent. -/
theorem scale_eq (A : FVec Ideal S24x1 .f32) :
    bitcastToFloat (F := Ideal) .f32 (shli (addi (expWord A) (broadcast S24x1 127#32)) (broadcast S24x1 23#32)) = exp2 (expReal A) := by
  funext j
  show Ideal.ieee 8 23 ((expWord A j + 127#32) <<< 23#32) = Ideal.exp2 (expReal A j)
  rw [expWord_apply, expReal_apply, Swiglu.exp2_int, ← Swiglu.scale_word]
  rfl

/-- The inverse scales agree. -/
theorem inv_eq (A : FVec Ideal S24x1 .f32) :
    bitcastToFloat (F := Ideal) .f32 (shli (addi (subi (broadcast S24x1 0#32) (expWord A)) (broadcast S24x1 127#32)) (broadcast S24x1 23#32))
      = exp2 (subf (broadcast S24x1 (Scalar.ofBits .f32 0x00000000#32)) (expReal A)) := by
  funext j
  show Ideal.ieee 8 23 ((0#32 - expWord A j + 127#32) <<< 23#32) = Ideal.exp2 (FloatOps.ofBits (F := Ideal) .f32 0x00000000#32 - expReal A j)
  rw [expWord_apply, expReal_apply, bits_zero, zero_sub, ← EReal.coe_neg, ← Int.cast_neg, Swiglu.exp2_int, ← Swiglu.inv_word]
  rfl

end Cert.ReferenceIdeal.Hand

end
-- ==== Proof.Swiglu.Quantise.lean ====
/-
  THE QUANTISED ACTIVATIONS, AND THE GATED ACTIVATION, OF THE KERNEL AND OF THE REFERENCE.

  Given one input block, the kernel's codes and scales of `x` are the reference's. Given one product of the codes with the
  weights, so are the gated activation and its codes and scales.
-/
module

public import proofs.«01_k».proof.Proof.Swiglu.Point
public import proofs.«01_k».proof.Proof.Swiglu.Scale
public import proofs.«01_k».proof.Proof.Gen.ReferenceIdeal.Frame

@[expose] public section

set_option maxRecDepth 16384

noncomputable section

namespace Cert.KernelIdeal.Hand

open Cert.KernelIdeal Cert.KernelIdeal.Gen
open Idealize.ShloMosaic
open Cert.ReferenceIdeal.Hand (expReal scale_eq inv_eq)

/-- The largest magnitude of each row of the input block. -/
def rowMaxX (x : Vec Ideal S24x4096 .bf16) : FVec Ideal S24x1 .f32 :=
  shapeCast S24x1 (multiReduction .maximumf [1] S24 (absf (k0_pay8 x)) 0xFF800000#32 reduces_S24x4096_S24 (.inl rfl) rfl) shapeCasts_S24_S24x1

/-- The largest magnitude of each row of the gated activation. -/
def rowMaxH (h : FVec Ideal S24x6848 .f32) : FVec Ideal S24x1 .f32 :=
  shapeCast S24x1 (multiReduction .maximumf [1] S24 (absf h) 0xFF800000#32 reduces_S24x6848_S24 (.inl rfl) rfl) shapeCasts_S24_S24x1

/-- The kernel's scales of `x` are the reference's. -/
theorem xs_eq (x : Vec Ideal S24x4096 .bf16) : xsOf x = Cert.ReferenceIdeal.Gen.k0_pay4 (F := Ideal) x :=
  scale_eq (rowMaxX x)

/-- The kernel's codes of `x` are the reference's. -/
theorem xc_eq (x : Vec Ideal S24x4096 .bf16) : xcOf x = Cert.ReferenceIdeal.Gen.k0_pay3 (F := Ideal) x :=
  congrArg (fun s => k0_pay1 (k0_pay8 x) (broadcastTo S24x4096 s broadcasts_S24x1_S24x4096)) (inv_eq (rowMaxX x))

/-- The reference's product of the codes with the weights. -/
def product (x : Vec Ideal S24x4096 .bf16) (w : FVec Ideal Cert.ReferenceIdeal.S4096x13696 .fp8e4m3) : FVec Ideal S24x13696 .f32 :=
  matmul (φ₁ := .fp8e4m3) (φ₂ := .fp8e4m3) Cert.ReferenceIdeal.dot_S24x4096_S4096x13696_S24x13696_1_0_0_1_n_n none
    (Cert.ReferenceIdeal.Gen.k0_pay3 (F := Ideal) x) w (constant S24x13696 .f32 0x00000000#32)

/-- The reference's dequantised product. -/
abbrev dequantised (x : Vec Ideal S24x4096 .bf16) (w : FVec Ideal Cert.ReferenceIdeal.S4096x13696 .fp8e4m3)
    (ws : Vec Ideal S1x13696 .f32) : FVec Ideal S24x13696 .f32 := Cert.ReferenceIdeal.Gen.k0_pay5 (F := Ideal) x w ws

/-- The reference's gate. -/
abbrev gate (x : Vec Ideal S24x4096 .bf16) (w : FVec Ideal Cert.ReferenceIdeal.S4096x13696 .fp8e4m3)
    (ws : Vec Ideal S1x13696 .f32) : FVec Ideal S24x6848 .f32 := Cert.ReferenceIdeal.Gen.k0_pay6 (F := Ideal) x w ws

/-- The reference's gated activation is the kernel's, of the same product and scales. -/
theorem gated_eq (x : Vec Ideal S24x4096 .bf16) (w : FVec Ideal Cert.ReferenceIdeal.S4096x13696 .fp8e4m3) (ws : Vec Ideal S1x13696 .f32) :
    Cert.ReferenceIdeal.Gen.k0_pay7 (F := Ideal) (dequantised x w ws) (gate x w ws)
      = k0_pay12 (product x w) (Cert.ReferenceIdeal.Gen.k0_pay4 (F := Ideal) x) ws := by
  unfold k0_pay12
  rw [shapeCast_self (Cert.ReferenceIdeal.Gen.k0_pay4 (F := Ideal) x)]
  rfl

/-- The codes of a gated activation under given inverse scales: scale, clip, round. -/
def clipCodes (h : FVec Ideal S24x6848 .f32) (s : FVec Ideal S24x1 .f32) : FVec Ideal S24x6848 .fp8e4m3 :=
  truncf .fp8e4m3 (minimumf (broadcast S24x6848 (Scalar.ofBits .f32 0x43E00000#32))
    (maximumf (broadcast S24x6848 (Scalar.ofBits .f32 0xC3E00000#32))
      (mulf h (broadcastTo S24x6848 s broadcasts_S24x1_S24x6848)))) bitsLt_fp8e4m3_f32

/-- The kernel's codes of the gated activation, with the inverse scales apart. -/
theorem codes_kernel (h : FVec Ideal S24x6848 .f32) (e : IVec S24x1 32) :
    k0_pay7 (F := Ideal) h e = clipCodes h (bitcastToFloat .f32 (shli (addi (subi (broadcast S24x1 0#32) e)
      (broadcast S24x1 127#32)) (broadcast S24x1 23#32))) := rfl

/-- The kernel's exponents of the gated activation. -/
theorem exponents_kernel (v : FVec Ideal S24x13696 .f32) (xs : Vec Ideal S24x1 .f32) (ws : Vec Ideal S1x13696 .f32) :
    k0_pay13 (F := Ideal) v xs ws = expWord (rowMaxH (k0_pay12 v xs ws)) := rfl

/-- The kernel's scales of the gated activation. -/
theorem scales_kernel (v : FVec Ideal S24x13696 .f32) (xs : Vec Ideal S24x1 .f32) (ws : Vec Ideal S1x13696 .f32) :
    k0_pay6 (F := Ideal) (k0_pay14 v xs ws) = bitcastToFloat .f32 (shli (addi (expWord (rowMaxH (k0_pay12 v xs ws)))
      (broadcast S24x1 127#32)) (broadcast S24x1 23#32)) := rfl

/-- The reference's scales of the gated activation. -/
theorem scales_reference (a : FVec Ideal S24x13696 .f32) (b : FVec Ideal S24x6848 .f32) :
    Cert.ReferenceIdeal.Gen.k0_pay10 (F := Ideal) a b = exp2 (expReal (rowMaxH (Cert.ReferenceIdeal.Gen.k0_pay7 (F := Ideal) a b))) := rfl

/-- The reference's codes of the gated activation. -/
theorem codes_reference (a : FVec Ideal S24x13696 .f32) (b : FVec Ideal S24x6848 .f32) :
    Cert.ReferenceIdeal.Gen.k0_pay9 (F := Ideal) a b = clipCodes (Cert.ReferenceIdeal.Gen.k0_pay7 (F := Ideal) a b)
      (exp2 (subf (broadcast S24x1 (Scalar.ofBits .f32 0)) (expReal (rowMaxH (Cert.ReferenceIdeal.Gen.k0_pay7 (F := Ideal) a b))))) := rfl

/-- The kernel's scales of the gated activation are the reference's, when the first 24 rows of the accumulator are the product. -/
theorem hs_eq (acc : Vec Ideal S32x13696 .f32) (x : Vec Ideal S24x4096 .bf16) (w : FVec Ideal Cert.ReferenceIdeal.S4096x13696 .fp8e4m3)
    (ws : Vec Ideal S1x13696 .f32) (h : rows24 acc = product x w) :
    hsOf acc (xsOf x) ws = Cert.ReferenceIdeal.Gen.k0_pay10 (F := Ideal) (dequantised x w ws) (gate x w ws) := by
  unfold hsOf
  rw [h, xs_eq, scales_kernel, scales_reference, gated_eq, scale_eq]

/-- The kernel's codes of the gated activation are the reference's, when the first 24 rows of the accumulator are the product. -/
theorem hc_eq (acc : Vec Ideal S32x13696 .f32) (x : Vec Ideal S24x4096 .bf16) (w : FVec Ideal Cert.ReferenceIdeal.S4096x13696 .fp8e4m3)
    (ws : Vec Ideal S1x13696 .f32) (h : rows24 acc = product x w) :
    hcOf acc (xsOf x) ws = Cert.ReferenceIdeal.Gen.k0_pay9 (F := Ideal) (dequantised x w ws) (gate x w ws) := by
  unfold hcOf
  rw [h, xs_eq, exponents_kernel, codes_kernel, codes_reference, gated_eq, inv_eq]
  rfl

end Cert.KernelIdeal.Hand

end
-- ==== Proof.Swiglu.Accumulate.lean ====
/-
  THE ACCUMULATOR AFTER THE LAST POINT IS THE WHOLE PRODUCT.

  Point by point the kernel adds the product of 256 columns of codes with 256 rows of weights. After the sixteenth point
  the first 24 rows of the accumulator are the product of all 4096 columns of codes with the whole of the weights, which is
  what the reference computes at once.
-/
module

public import proofs.«01_k».proof.Proof.Swiglu.Run
public import proofs.«01_k».proof.Proof.Swiglu.Quantise
public import Idealize.ShloMosaic.Lib.MatmulPlain
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open scoped BigOperators

/-- A product of a 32×256 block of codes with a 256×13696 block of weights, from zero, at an index. -/
theorem block_apply (a : FVec Ideal S32x256 .fp8e4m3) (w : FVec Ideal S256x13696 .fp8e4m3) (r : Fin 32) (q : Fin 13696) :
    matmul (φ₁ := .fp8e4m3) (φ₂ := .fp8e4m3) dot_S32x256_S256x13696_S32x13696_1_0_0_1_n_n none a w
      (constant S32x13696 .f32 0x00000000#32) (ix2 r q) = ∑ k : Fin 256, a (ix2 r k) * w (ix2 k q) := by
  refine (Ideal.matmul_plain_apply (M := 32) (K := 256) (N := 13696) none a w (constant S32x13696 .f32 0x00000000#32) r q).trans ?_
  exact (congrArg (· + _) bits_zero).trans (zero_add _)

/-- The reference's product at an index. -/
theorem product_apply (x : Vec Ideal S24x4096 .bf16) (w : FVec Ideal Cert.ReferenceIdeal.S4096x13696 .fp8e4m3) (r : Fin 24) (q : Fin 13696) :
    product x w (ix2 r q) = ∑ k : Fin 4096, (Cert.ReferenceIdeal.Gen.k0_pay3 (F := Ideal) x (ix2 r k) : EReal) * w (ix2 k q) := by
  refine (Ideal.matmul_plain_apply (M := 24) (K := 4096) (N := 13696) none (Cert.ReferenceIdeal.Gen.k0_pay3 (F := Ideal) x) w
    (constant S24x13696 .f32 0x00000000#32) r q).trans ?_
  exact (congrArg (· + _) bits_zero).trans (zero_add _)

/-- The columns of codes read at point `t` begin at `256 t`. -/
theorem off_eq : ∀ t : Fin cfg0.N, k0_off1 (grid0.coords t) = ![0, t.val * 256] := by decide +kernel

/-- The block of weights read at point `t` is the `t`-th along the contracted axis. -/
theorem index_eq : ∀ t : Fin cfg0.N, win0_1.index t = ![t.val, 0] := by decide +kernel

/-- One point's step at an index. -/
theorem step_apply (t : Fin cfg0.N) (xq : Vec Ideal S32x4096 .fp8e4m3) (w : Vec Ideal S256x13696 .fp8e4m3) (acc : Vec Ideal S32x13696 .f32)
    (r : Fin 32) (q : Fin 13696) (ht : ∀ k : Fin 256, t.val * 256 + k.val < 4096) :
    accStep (F := Ideal) (grid0.coords t) xq w acc (ix2 r q)
      = (acc (ix2 r q) : EReal) + ∑ k : Fin 256, (xq (ix2 r ⟨t.val * 256 + k.val, ht k⟩) : EReal) * w (ix2 k q) := by
  unfold accStep k0_pay5
  rw [shapeCast_self]
  refine congrArg ((acc (ix2 r q) : EReal) + ·) ((block_apply _ w r q).trans (Finset.sum_congr rfl fun k _ => ?_))
  refine congrArg (· * (w (ix2 k q) : EReal)) ?_
  refine View.ld_unit_apply_of xq (k0_off1 (grid0.coords t)) S32x256.size _ (ix2 r k) (ix2 r ⟨t.val * 256 + k.val, ht k⟩) fun a => ?_
  match a with
  | ⟨0, _⟩ => exact ((congrArg (· + r.val) (congrFun (off_eq t) 0)).trans (Nat.zero_add _)).symm
  | ⟨1, _⟩ => exact (congrArg (· + k.val) (congrFun (off_eq t) 1)).symm

/-- The first 24 rows of the padded codes are the codes. -/
theorem xq_apply (x : Vec Ideal S24x4096 .bf16) (r : Fin 24) (r' : Fin 32) (h : r'.val = r.val) (k : Fin 4096) :
    xqOf (F := Ideal) x (ix2 r' k) = Cert.ReferenceIdeal.Gen.k0_pay3 (F := Ideal) x (ix2 r k) := by
  rw [← xc_eq]
  unfold xqOf
  have he : (ix2 r' k : S32x4096.Idx)
      = (Rect.unit (s := S32x4096) ![0, 0] S24x4096.size inb_S32x4096_S24x4096_0_0).emb (ix2 r k) := by
    funext a
    apply Fin.ext
    match a with
    | ⟨0, _⟩ => show r'.val = 0 + 1 * r.val; omega
    | ⟨1, _⟩ => show k.val = 0 + 1 * k.val; omega
  rw [he]
  refine (View.canon_cons_emb (Val := Elt Ideal) _ _ _ _).trans ?_
  unfold k0_pay3
  rw [shapeCast_self]
  rfl

variable (m : (ℓ : Loc nD τ sig) → Buf (Elt Ideal) ℓ)

/-- The weights as launched. -/
abbrev weights (c : Dev nD) : FVec Ideal Cert.ReferenceIdeal.S4096x13696 .fp8e4m3 := m ((c : Thread nD τ).loc main_arg1)

/-- The block of weights at point `t` is 256 rows of the weights, from `256 t`. -/
theorem wIn_apply (c : Dev nD) (t : Fin cfg0.N) (k : Fin 256) (q : Fin 13696) (h : t.val * 256 + k.val < 4096) :
    wIn m c t (ix2 k q) = weights m c (ix2 ⟨t.val * 256 + k.val, h⟩ q) := by
  unfold wIn iblk
  show V m c main_arg1 (((cfg0.win 1).blk t).view.emb (ix2 k q)) = _
  rw [V_main_arg1]
  refine congrArg (m ((c : Thread nD τ).loc main_arg1)) ?_
  have e := index_eq t
  blk_ext [e]

/-- The term of the contraction at position `l`, zero past its end. -/
def term (x : Vec Ideal S24x4096 .bf16) (w : FVec Ideal Cert.ReferenceIdeal.S4096x13696 .fp8e4m3) (r : Fin 24) (q : Fin 13696) (l : ℕ) : EReal :=
  if h : l < 4096 then (Cert.ReferenceIdeal.Gen.k0_pay3 (F := Ideal) x (ix2 r ⟨l, h⟩) : EReal) * w (ix2 ⟨l, h⟩ q) else 0

/-- What the accumulator gains at point `t`. -/
theorem gain (c : Dev nD) (t : Fin cfg0.N) (acc : Vec Ideal S32x13696 .f32) (r : Fin 24) (r' : Fin 32) (h : r'.val = r.val) (q : Fin 13696) :
    accStep (F := Ideal) (grid0.coords t) (xqOf (xIn m c)) (wIn m c t) acc (ix2 r' q)
      = (acc (ix2 r' q) : EReal) + ∑ k : Fin 256, term (xIn m c) (weights m c) r q (t.val * 256 + k.val) := by
  have ht : ∀ k : Fin 256, t.val * 256 + k.val < 4096 := fun k => by
    have h1 := t.isLt; have h2 := k.isLt; have hN : cfg0.N = 16 := N_0; omega
  refine (step_apply t _ _ acc r' q ht).trans (congrArg ((acc (ix2 r' q) : EReal) + ·) (Finset.sum_congr rfl fun k _ => ?_))
  unfold term
  rw [dif_pos (ht k), xq_apply _ r r' h, wIn_apply m c t k q (ht k)]

/-- The accumulator after point `n`: the terms of the first `256 (n + 1)` positions. -/
theorem accAt_apply (c : Dev nD) (r : Fin 24) (r' : Fin 32) (h : r'.val = r.val) (q : Fin 13696) : ∀ (n : ℕ) (hn : n < cfg0.N),
    accAt m c n hn (ix2 r' q) = ∑ s : Fin (n + 1), ∑ k : Fin 256, term (xIn m c) (weights m c) r q (s.val * 256 + k.val)
  | 0, hn => by
    refine (gain m c ⟨0, hn⟩ _ r r' h q).trans ?_
    rw [show (k0_pay4 (F := Ideal)) (ix2 r' q) = (0 : EReal) from by unfold k0_pay4; rw [shapeCast_self]; exact bits_zero,
      Fin.sum_univ_one]
    exact zero_add _
  | n + 1, hn => by
    refine (gain m c ⟨n + 1, hn⟩ _ r r' h q).trans ?_
    rw [accAt_apply c r r' h q n (Nat.lt_of_succ_lt hn)]
    exact (Fin.sum_univ_castSucc fun s : Fin (n + 2) => ∑ k : Fin 256, term (xIn m c) (weights m c) r q (s.val * 256 + k.val)).symm

/-- After the last point the first 24 rows of the accumulator are the reference's product. -/
theorem acc_eq (c : Dev nD) (hn : 15 < cfg0.N) : rows24 (accAt m c 15 hn) = product (xIn m c) (weights m c) := by
  funext j
  obtain ⟨r, q, rfl⟩ : ∃ (r : Fin 24) (q : Fin 13696), j = ix2 r q := ⟨j 0, j 1, ValueIdx.eq_ix2 j⟩
  rw [product_apply]
  unfold rows24
  refine (View.ld_unit_apply_of (accAt m c 15 hn) ![0, 0] S24x13696.size _ (ix2 r q) (ix2 (⟨r.val, by omega⟩ : Fin 32) q) fun a => ?_).trans ?_
  · match a with
    | ⟨0, _⟩ => show r.val = 0 + r.val; omega
    | ⟨1, _⟩ => show q.val = 0 + q.val; omega
  rw [accAt_apply m c r ⟨r.val, by omega⟩ rfl q 15 hn]
  refine (Fin.sum_univ_univ_mul_add 16 256 (term (xIn m c) (weights m c) r q)).trans (Finset.sum_congr rfl fun l _ => ?_)
  exact dif_pos l.isLt

end Cert.KernelIdeal.Hand

end
-- ==== Proof.Swiglu.RefRun.lean ====
/-
  WHAT THE REFERENCE LEAVES, AND WHAT BOTH PROGRAMS READ.

  The reference runs its body once on the whole arrays. This module reads its four results off the run, and reads the
  inputs of the two programs as functions of the arguments as launched.
-/
module

public import proofs.«01_k».proof.Proof.Swiglu.Run
public import proofs.«01_k».proof.Proof.Gen.ReferenceIdeal.Frame
public import Idealize.ShloMosaic.Lib.Pipeline.ValueKit
public import Idealize.ShloMosaic.PureOps.IdealRules

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The activations as launched, as a matrix of 24 rows. -/
def activations (c : Dev nD) : Vec Ideal S24x4096 .bf16 :=
  shapeCast S24x4096 (m ((c : Thread nD τ).loc main_arg0)) shapeCasts_S24x1x4096_S24x4096

/-- The weights' scales as launched, as one row. -/
def weightScales (c : Dev nD) : Vec Ideal S1x13696 .f32 :=
  shapeCast S1x13696 (m ((c : Thread nD τ).loc main_arg2)) shapeCasts_S13696_S1x13696

/-- The activations the kernel reads are those launched. -/
theorem xIn_eq (c : Dev nD) : xIn m c = activations m c := by
  have h : V m c main_v0 = activations m c := by
    entry_read
    rfl
  rw [← h]
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)

/-- The weights' scales the kernel reads at the last point are those launched. -/
theorem wsIn_eq (c : Dev nD) : wsIn m c t0_15 = weightScales m c := by
  have h : V m c main_v1 = weightScales m c := by
    entry_read
    rfl
  rw [← h]
  have hz' : (fun a => win0_2.index t0_15 a * main_v1.ty.shape.size a) = fun _ => 0 := funext fun a => by fin_cases a <;> decide
  exact Memref.read_access_unit_zero (Elt Ideal) main_v1 hz' (fun a => by rw [congrFun hz' a]; simp) (V m c main_v1)

end Cert.KernelIdeal.Hand

namespace Cert.ReferenceIdeal.Hand

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (ρ : Dev nD → PrngReg)

/-- The activations as launched, as a matrix of 24 rows. -/
def activations (c : Dev nD) : Vec Ideal S24x4096 .bf16 :=
  shapeCast S24x4096 (m ((c : Thread nD τ).loc main_arg0)) shapeCasts_S24x1x4096_S24x4096

/-- The weights as launched. -/
abbrev weights (c : Dev nD) : FVec Ideal S4096x13696 .fp8e4m3 := m ((c : Thread nD τ).loc main_arg1)

/-- The weights' scales as launched, as one row. -/
def weightScales (c : Dev nD) : Vec Ideal S1x13696 .f32 :=
  shapeCast S1x13696 (m ((c : Thread nD τ).loc main_arg2)) shapeCasts_S13696_S1x13696

/-- The zero offsets of a two-axis access. -/
theorem hz : (![0, 0] : Fin 2 → Nat) = fun _ => 0 := funext fun a => by fin_cases a <;> rfl

/-- The activations the reference reads are those launched. -/
theorem x_eq (c : Dev nD) (t : Fin cfg0.N) : iblk m c 0 t = activations m c := by
  have h : V m c main_v0 = activations m c := by
    entry_read
    rfl
  rw [← h]
  have hz' : (fun a => win0_0.index t a * main_v0.ty.shape.size a) = fun _ => 0 := funext fun a => Nat.zero_mul _
  exact Memref.read_access_unit_zero (Elt Ideal) main_v0 hz' (fun a => by rw [congrFun hz' a]; simp) (V m c main_v0)

/-- The weights the reference reads are those launched. -/
theorem w_eq (c : Dev nD) (t : Fin cfg0.N) : iblk m c 1 t = weights m c := by
  have h : V m c main_arg1 = weights m c := V_main_arg1 m c
  rw [← h]
  have hz' : (fun a => win0_1.index t a * main_arg1.ty.shape.size a) = fun _ => 0 := funext fun a => Nat.zero_mul _
  exact Memref.read_access_unit_zero (Elt Ideal) main_arg1 hz' (fun a => by rw [congrFun hz' a]; simp) (V m c main_arg1)

/-- The weights' scales the reference reads are those launched. -/
theorem ws_eq (c : Dev nD) (t : Fin cfg0.N) : iblk m c 2 t = weightScales m c := by
  have h : V m c main_v1 = weightScales m c := by
    entry_read
    rfl
  rw [← h]
  have hz' : (fun a => win0_2.index t a * main_v1.ty.shape.size a) = fun _ => 0 := funext fun a => Nat.zero_mul _
  exact Memref.read_access_unit_zero (Elt Ideal) main_v1 hz' (fun a => by rw [congrFun hz' a]; simp) (V m c main_v1)

/-- The dequantised product inside the body is that of the whole arrays. -/
theorem pay11_eq (x : Vec Ideal S24x4096 .bf16) (w : Vec Ideal S4096x13696 .fp8e4m3) (ws : Vec Ideal S1x13696 .f32) :
    k0_pay11 (F := Ideal) x w ws = k0_pay5 x w ws := by
  unfold k0_pay11
  rw [View.ld_unit_zero hz _ x, View.ld_unit_zero hz _ w, View.ld_unit_zero hz _ ws]

/-- The gate inside the body is that of the whole arrays. -/
theorem pay12_eq (x : Vec Ideal S24x4096 .bf16) (w : Vec Ideal S4096x13696 .fp8e4m3) (ws : Vec Ideal S1x13696 .f32) :
    k0_pay12 (F := Ideal) x w ws = k0_pay6 x w ws := by
  unfold k0_pay12
  rw [View.ld_unit_zero hz _ x, View.ld_unit_zero hz _ w, View.ld_unit_zero hz _ ws]

/-- Result 1: the scales of the gated activation. -/
def result3 (c : Dev nD) : Vec Ideal S24x1 .f32 := k0_pay10 (k0_pay5 (activations m c) (weights m c) (weightScales m c)) (k0_pay6 (activations m c) (weights m c) (weightScales m c))

/-- The body leaves it in window 3's buffer. -/
theorem left3 (c : Dev nD) (t : Fin cfg0.N) : (dats m 0 c).after 3 t = result3 m c := by
  rw [after0_3, x_eq, w_eq, ws_eq]
  unfold out0_3 result3
  rw [View.canon_unit_zero hz, pay11_eq, pay12_eq]

/-- The one write-back of window 3 writes it. -/
theorem flushed3 (c : Dev nD) (t : Fin cfg0.N) :
    (dats m 0 c).flushed 3 t = ((cfg0.win 3).blk t).view.read (Elt Ideal) (result3 m c) := by
  show (cfg0.win 3).cut (grid0.coords t) ((dats m 0 c).after 3 t) = _
  rw [left3]
  have hz' : (fun a => win0_3.index t a * main_v2_0.ty.shape.size a) = fun _ => 0 := funext fun a => Nat.zero_mul _
  exact (Memref.read_access_unit_zero (Elt Ideal) main_v2_0 hz' (fun a => by rw [congrFun hz' a]; simp) (result3 m c)).symm

/-- So the array ends at it. -/
theorem final3 (c : Dev nD) : (dats m 0 c).arrAt 3 cfg0.N = result3 m c :=
  (dats m 0 c).arrAt_eq_of_covers 3 (result3 m c) (by decide +kernel) fun t _ y => by
    have h := congrFun (flushed3 m c t) y
    exact h

/-- Result 2: the codes of the gated activation. -/
def result4 (c : Dev nD) : Vec Ideal S24x6848 .fp8e4m3 := k0_pay9 (k0_pay5 (activations m c) (weights m c) (weightScales m c)) (k0_pay6 (activations m c) (weights m c) (weightScales m c))

/-- The body leaves it in window 4's buffer. -/
theorem left4 (c : Dev nD) (t : Fin cfg0.N) : (dats m 0 c).after 4 t = result4 m c := by
  rw [after0_4, x_eq, w_eq, ws_eq]
  unfold out0_4 result4
  rw [View.canon_unit_zero hz, pay11_eq, pay12_eq]

/-- The one write-back of window 4 writes it. -/
theorem flushed4 (c : Dev nD) (t : Fin cfg0.N) :
    (dats m 0 c).flushed 4 t = ((cfg0.win 4).blk t).view.read (Elt Ideal) (result4 m c) := by
  show (cfg0.win 4).cut (grid0.coords t) ((dats m 0 c).after 4 t) = _
  rw [left4]
  have hz' : (fun a => win0_4.index t a * main_v2_1.ty.shape.size a) = fun _ => 0 := funext fun a => Nat.zero_mul _
  exact (Memref.read_access_unit_zero (Elt Ideal) main_v2_1 hz' (fun a => by rw [congrFun hz' a]; simp) (result4 m c)).symm

/-- So the array ends at it. -/
theorem final4 (c : Dev nD) : (dats m 0 c).arrAt 4 cfg0.N = result4 m c :=
  (dats m 0 c).arrAt_eq_of_covers 4 (result4 m c) (by decide +kernel) fun t _ y => by
    have h := congrFun (flushed4 m c t) y
    exact h

/-- Result 3: the codes of the activations. -/
def result5 (c : Dev nD) : Vec Ideal S24x4096 .fp8e4m3 := k0_pay3 (activations m c)

/-- The body leaves it in window 5's buffer. -/
theorem left5 (c : Dev nD) (t : Fin cfg0.N) : (dats m 0 c).after 5 t = result5 m c := by
  rw [after0_5, x_eq, w_eq, ws_eq]
  unfold out0_5 result5
  rw [View.canon_unit_zero hz, View.ld_unit_zero hz _ (activations m c)]

/-- The one write-back of window 5 writes it. -/
theorem flushed5 (c : Dev nD) (t : Fin cfg0.N) :
    (dats m 0 c).flushed 5 t = ((cfg0.win 5).blk t).view.read (Elt Ideal) (result5 m c) := by
  show (cfg0.win 5).cut (grid0.coords t) ((dats m 0 c).after 5 t) = _
  rw [left5]
  have hz' : (fun a => win0_5.index t a * main_v2_2.ty.shape.size a) = fun _ => 0 := funext fun a => Nat.zero_mul _
  exact (Memref.read_access_unit_zero (Elt Ideal) main_v2_2 hz' (fun a => by rw [congrFun hz' a]; simp) (result5 m c)).symm

/-- So the array ends at it. -/
theorem final5 (c : Dev nD) : (dats m 0 c).arrAt 5 cfg0.N = result5 m c :=
  (dats m 0 c).arrAt_eq_of_covers 5 (result5 m c) (by decide +kernel) fun t _ y => by
    have h := congrFun (flushed5 m c t) y
    exact h

/-- Result 4: the scales of the activations. -/
def result6 (c : Dev nD) : Vec Ideal S24x1 .f32 := k0_pay4 (activations m c)

/-- The body leaves it in window 6's buffer. -/
theorem left6 (c : Dev nD) (t : Fin cfg0.N) : (dats m 0 c).after 6 t = result6 m c := by
  rw [after0_6, x_eq, w_eq, ws_eq]
  unfold out0_6 result6
  rw [View.canon_unit_zero hz, View.ld_unit_zero hz _ (activations m c)]

/-- The one write-back of window 6 writes it. -/
theorem flushed6 (c : Dev nD) (t : Fin cfg0.N) :
    (dats m 0 c).flushed 6 t = ((cfg0.win 6).blk t).view.read (Elt Ideal) (result6 m c) := by
  show (cfg0.win 6).cut (grid0.coords t) ((dats m 0 c).after 6 t) = _
  rw [left6]
  have hz' : (fun a => win0_6.index t a * main_v2_3.ty.shape.size a) = fun _ => 0 := funext fun a => Nat.zero_mul _
  exact (Memref.read_access_unit_zero (Elt Ideal) main_v2_3 hz' (fun a => by rw [congrFun hz' a]; simp) (result6 m c)).symm

/-- So the array ends at it. -/
theorem final6 (c : Dev nD) : (dats m 0 c).arrAt 6 cfg0.N = result6 m c :=
  (dats m 0 c).arrAt_eq_of_covers 6 (result6 m c) (by decide +kernel) fun t _ y => by
    have h := congrFun (flushed6 m c t) y
    exact h

/-- The reference's run, read: the four result arrays at their named values. -/
theorem run : θ_run defs (onTc (τ := τ) (main (F := Ideal))) ⟨m, fun _ => 0, ρ⟩ fun r => ∀ c : Dev nD,
      r.2.mem ((c : Thread nD τ).loc main_v2_0) = result3 m c
      ∧ r.2.mem ((c : Thread nD τ).loc main_v2_1) = result4 m c
      ∧ r.2.mem ((c : Thread nD τ).loc main_v2_2) = result5 m c
      ∧ r.2.mem ((c : Thread nD τ).loc main_v2_3) = result6 m c :=
  (θ_run defs _ _).mono (fun _ h c => ⟨((h c).1 3).trans (final3 m c), ((h c).1 4).trans (final4 m c),
    ((h c).1 5).trans (final5 m c), ((h c).1 6).trans (final6 m c)⟩) (run_main m ρ)

end Cert.ReferenceIdeal.Hand

end
-- ==== Proof.Swiglu.Algebraic.lean ====
/-
  THE VALUE CLAIM: THE KERNEL AND THE REFERENCE END WITH EQUAL RESULTS.

  From memories agreeing on the three arguments, over the extended reals, the kernel and the reference both run and leave
  the same scales and codes of the gated activation and the same codes and scales of the activations.
-/
module

public import proofs.«01_k».proof.Proof.Swiglu.Accumulate
public import proofs.«01_k».proof.Proof.Swiglu.RefRun
public import proofs.«01_k».proof.Defs
public import Idealize.ShloMosaic.Lib.Claim

@[expose] public section

set_option maxRecDepth 16384

noncomputable section

namespace Swiglu

open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m'}

/-- Agreeing memories hold the same activations. -/
theorem activations_eq {c : Dev Cert.KernelIdeal.nD} (h : Agree m m' c) :
    Cert.ReferenceIdeal.Hand.activations m' c = Cert.KernelIdeal.Hand.activations m c :=
  congrArg (fun v => shapeCast Cert.KernelIdeal.S24x4096 v Cert.KernelIdeal.Facts₀.shapeCasts_S24x1x4096_S24x4096) h.1

/-- Agreeing memories hold the same weights. -/
theorem weights_eq {c : Dev Cert.KernelIdeal.nD} (h : Agree m m' c) :
    Cert.ReferenceIdeal.Hand.weights m' c = Cert.KernelIdeal.Hand.weights m c := h.2.1

/-- Agreeing memories hold the same scales of the weights. -/
theorem weightScales_eq {c : Dev Cert.KernelIdeal.nD} (h : Agree m m' c) :
    Cert.ReferenceIdeal.Hand.weightScales m' c = Cert.KernelIdeal.Hand.weightScales m c :=
  congrArg (fun v => shapeCast Cert.KernelIdeal.S1x13696 v Cert.KernelIdeal.Facts₀.shapeCasts_S13696_S1x13696) h.2.2

/-- The two programs' scales of the gated activation are equal. -/
theorem result3_eq {c : Dev Cert.KernelIdeal.nD} (h : Agree m m' c) :
    Cert.ReferenceIdeal.Hand.result3 m' c = Cert.KernelIdeal.Hand.result3 m c := by
  unfold Cert.ReferenceIdeal.Hand.result3 Cert.KernelIdeal.Hand.result3
  rw [activations_eq h, weights_eq h, weightScales_eq h, Cert.KernelIdeal.Hand.wsIn_eq,
    Cert.KernelIdeal.Hand.hs_eq _ _ _ _ (Cert.KernelIdeal.Hand.acc_eq m c _), Cert.KernelIdeal.Hand.xIn_eq]

/-- The two programs' codes of the gated activation are equal. -/
theorem result4_eq {c : Dev Cert.KernelIdeal.nD} (h : Agree m m' c) :
    Cert.ReferenceIdeal.Hand.result4 m' c = Cert.KernelIdeal.Hand.result4 m c := by
  unfold Cert.ReferenceIdeal.Hand.result4 Cert.KernelIdeal.Hand.result4
  rw [activations_eq h, weights_eq h, weightScales_eq h, Cert.KernelIdeal.Hand.wsIn_eq,
    Cert.KernelIdeal.Hand.hc_eq _ _ _ _ (Cert.KernelIdeal.Hand.acc_eq m c _), Cert.KernelIdeal.Hand.xIn_eq]

/-- The two programs' codes of the activations are equal. -/
theorem result5_eq {c : Dev Cert.KernelIdeal.nD} (h : Agree m m' c) :
    Cert.ReferenceIdeal.Hand.result5 m' c = Cert.KernelIdeal.Hand.result5 m c := by
  unfold Cert.ReferenceIdeal.Hand.result5 Cert.KernelIdeal.Hand.result5
  rw [activations_eq h, Cert.KernelIdeal.Hand.xc_eq, Cert.KernelIdeal.Hand.xIn_eq]

/-- The two programs' scales of the activations are equal. -/
theorem result6_eq {c : Dev Cert.KernelIdeal.nD} (h : Agree m m' c) :
    Cert.ReferenceIdeal.Hand.result6 m' c = Cert.KernelIdeal.Hand.result6 m c := by
  unfold Cert.ReferenceIdeal.Hand.result6 Cert.KernelIdeal.Hand.result6
  rw [activations_eq h, Cert.KernelIdeal.Hand.xs_eq, Cert.KernelIdeal.Hand.xIn_eq]

/-- THE VALUE CLAIM: from memories agreeing on the arguments both programs run, end with equal results, and leave their
    arguments unchanged. -/
theorem algebraic : Cert.algebraic_KernelIdeal_ReferenceIdeal (hKernelIdeal := Cert.KernelIdeal.Gen.facts)
    (hReferenceIdeal := Cert.ReferenceIdeal.Gen.facts) := fun m g m' g' _ hag =>
  ⟨Cert.KernelIdeal.Hand.result3 m, Cert.KernelIdeal.Hand.result4 m, Cert.KernelIdeal.Hand.result5 m, Cert.KernelIdeal.Hand.result6 m,
    (θ_run _ _ _).mono (fun _ h c => ⟨(h.1 c).1, (h.1 c).2.1, (h.1 c).2.2.1, (h.1 c).2.2.2, h.2 c⟩)
      (θ_run_and (Cert.KernelIdeal.Hand.run m g) (Cert.KernelIdeal.Hand.unchanged m g)),
    (θ_run _ _ _).mono (fun _ h c => ⟨(h.1 c).1.trans (result3_eq (hag c)), (h.1 c).2.1.trans (result4_eq (hag c)),
        (h.1 c).2.2.1.trans (result5_eq (hag c)), (h.1 c).2.2.2.trans (result6_eq (hag c)), h.2 c⟩)
      (θ_run_and (Cert.ReferenceIdeal.Hand.run m' g') (Cert.ReferenceIdeal.Gen.unchanged m' g'))⟩

end Swiglu

end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Gen.KernelIdeal
public import proofs.«01_k».proof.Proof.Swiglu.KernelFrame
public import proofs.«01_k».proof.Proof.Swiglu.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Reference.Gen.facts,
    fun m ρ _ => Cert.Kernel.Hand.frame m ρ,
    fun m ρ _ => Cert.KernelIdeal.Hand.frame m ρ,
    fun m ρ _ => Cert.ReferenceIdeal.Gen.frame m ρ,
    fun m ρ _ => Cert.Reference.Gen.frame m ρ,
    trivial,
    IdealRules.named_const.statement Cert.ReferenceIdeal.κ "ln2" .f32 0x3F317218#32 ((Real.log 2 : ℝ) : EReal) rfl,
    Swiglu.algebraic⟩

end Cert.Proof

end
